-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_on_head_scale_nonnegative [hKernelIdeal : Cert.KernelIdeal.Facts] [hReferenceIdeal : Cert.ReferenceIdeal.Facts] [hOn_head_scale_nonnegative : Cert.On_head_scale_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 8192, 8192]⟩ : Shape).Idx, (Cert.On_head_scale_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v14) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 8192, 8192]⟩ : Shape).Idx, (Cert.On_head_scale_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v6) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hOn_head_scale_nonnegative : Cert.On_head_scale_nonnegative.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_head_scale_nonnegative (hKernelIdeal := hKernelIdeal) (hReferenceIdeal := hReferenceIdeal) (hOn_head_scale_nonnegative := hOn_head_scale_nonnegative)
-- ==== On_head_scale_nonnegative.lean ====
abbrev S2x8192x8192 : Shape := ⟨3, ![2, 8192, 8192]⟩
abbrev S64 : Shape := ⟨1, ![64]⟩
abbrev S2x8192x2048 : Shape := ⟨3, ![2, 8192, 2048]⟩
abbrev S16 : Shape := ⟨1, ![16]⟩
abbrev S16x4 : Shape := ⟨2, ![16, 4]⟩
abbrev S16x1 : Shape := ⟨2, ![16, 1]⟩
abbrev S_ : Shape := ⟨0, ![]⟩
abbrev S1x1x16x4x1 : Shape := ⟨5, ![1, 1, 16, 4, 1]⟩
abbrev S2x8192x16x4x128 : Shape := ⟨5, ![2, 8192, 16, 4, 128]⟩

class Facts : Prop where
  shapeCasts_S64_S16x4 : S64.ShapeCasts S16x4
  bcast_S16_S16x1_0 : S16.BroadcastsInDim S16x1 (![0] : Fin 1 → Fin S16x1.rank)
  bcast_S16x1_S16x4_0_1 : S16x1.BroadcastsInDim S16x4 (![0, 1] : Fin 2 → Fin S16x4.rank)
  bcast_S_S16x4 : S_.BroadcastsInDim S16x4 (![] : Fin 0 → Fin S16x4.rank)
  bcast_S16x4_S1x1x16x4x1_2_3 : S16x4.BroadcastsInDim S1x1x16x4x1 (![2, 3] : Fin 2 → Fin S1x1x16x4x1.rank)
  bcast_S1x1x16x4x1_S2x8192x16x4x128_0_1_2_3_4 : S1x1x16x4x1.BroadcastsInDim S2x8192x16x4x128 (![0, 1, 2, 3, 4] : Fin 5 → Fin S2x8192x16x4x128.rank)
  shapeCasts_S2x8192x16x4x128_S2x8192x8192 : S2x8192x16x4x128.ShapeCasts S2x8192x8192

variable [Facts]

def fn {F : FTy → Type} [FloatOps F] (main_arg0 : FVec F S2x8192x8192 .fp8e4m3) (main_arg1 : FVec F S64 .f32) (main_arg2 : FVec F S2x8192x2048 .fp8e4m3) (main_arg3 : FVec F S16 .f32) (main_arg4 : FVec F S2x8192x2048 .fp8e4m3) (main_arg5 : FVec F S16 .f32) : IVec S2x8192x8192 1 :=
  let main_v0 : FVec F S16x4 .f32 := shapeCast S16x4 main_arg1 shapeCasts_S64_S16x4
  let main_v1 : FVec F S16x1 .f32 := broadcastInDim S16x1 ![0] bcast_S16_S16x1_0 main_arg3
  let main_v2 : FVec F S16x4 .f32 := broadcastInDim S16x4 ![0, 1] bcast_S16x1_S16x4_0_1 main_v1
  let main_v3 : FVec F S16x4 .f32 := mulf main_v0 main_v2
  let main_cst : FVec F S_ .f32 := constant S_ .f32 0x3DB504F3#32
  let main_v4 : FVec F S16x4 .f32 := broadcastInDim S16x4 ![] bcast_S_S16x4 main_cst
  let main_v5 : FVec F S16x4 .f32 := mulf main_v3 main_v4
  let main_cst_0 : FVec F S_ .f32 := constant S_ .f32 0x00000000#32
  let main_v6 : FVec F S16x4 .f32 := broadcastInDim S16x4 ![] bcast_S_S16x4 main_cst_0
  let main_v7 : IVec S16x4 1 := cmpf .oge main_v5 main_v6
  let main_v8 : IVec S1x1x16x4x1 1 := broadcastInDim S1x1x16x4x1 ![2, 3] bcast_S16x4_S1x1x16x4x1_2_3 main_v7
  let main_v9 : IVec S2x8192x16x4x128 1 := broadcastInDim S2x8192x16x4x128 ![0, 1, 2, 3, 4] bcast_S1x1x16x4x1_S2x8192x16x4x128_0_1_2_3_4 main_v8
  let main_v10 : IVec S2x8192x8192 1 := shapeCast S2x8192x8192 main_v9 shapeCasts_S2x8192x16x4x128_S2x8192x8192
  main_v10
-- ==== Kernel.lean ====
abbrev S2x8192x8192 : Shape := ⟨3, ![2, 8192, 8192]⟩
abbrev S64 : Shape := ⟨1, ![64]⟩
abbrev S2x8192x2048 : Shape := ⟨3, ![2, 8192, 2048]⟩
abbrev S16 : Shape := ⟨1, ![16]⟩
abbrev S16x4 : Shape := ⟨2, ![16, 4]⟩
abbrev S16x1 : Shape := ⟨2, ![16, 1]⟩
abbrev S_ : Shape := ⟨0, ![]⟩
abbrev S2x2048x8192 : Shape := ⟨3, ![2, 2048, 8192]⟩
abbrev S1x8192x512 : Shape := ⟨3, ![1, 8192, 512]⟩
abbrev S1x8192x128 : Shape := ⟨3, ![1, 8192, 128]⟩
abbrev S1x128x8192 : Shape := ⟨3, ![1, 128, 8192]⟩
abbrev S8192x256 : Shape := ⟨2, ![8192, 256]⟩
abbrev S8x256 : Shape := ⟨2, ![8, 256]⟩
abbrev S1x256x128 : Shape := ⟨3, ![1, 256, 128]⟩
abbrev S256x128 : Shape := ⟨2, ![256, 128]⟩
abbrev S1 : Shape := ⟨1, ![1]⟩
abbrev S1x256 : Shape := ⟨2, ![1, 256]⟩
abbrev S32x256 : Shape := ⟨2, ![32, 256]⟩
abbrev S128x256 : Shape := ⟨2, ![128, 256]⟩
abbrev S256x256 : Shape := ⟨2, ![256, 256]⟩
abbrev S8x32x256 : Shape := ⟨3, ![8, 32, 256]⟩
abbrev S1x128x256 : Shape := ⟨3, ![1, 128, 256]⟩
abbrev S1x1024x128 : Shape := ⟨3, ![1, 1024, 128]⟩
abbrev S1024x128 : Shape := ⟨2, ![1024, 128]⟩
abbrev S1024x256 : Shape := ⟨2, ![1024, 256]⟩
abbrev S32x32x256 : Shape := ⟨3, ![32, 32, 256]⟩
abbrev S256 : Shape := ⟨1, ![256]⟩

abbrev nBuf : Space → Nat
  | .hbm => 28
  | .vmem => 10
  | .smem => 3
  | _ => 0

abbrev bufTy : (tb : Table) → Fin (tcTables nBuf tb) → BufTy
  | .hbm, ⟨0, _⟩ => ⟨S2x8192x8192, .fp8e4m3⟩
  | .hbm, ⟨1, _⟩ => ⟨S64, .f32⟩
  | .hbm, ⟨2, _⟩ => ⟨S2x8192x2048, .fp8e4m3⟩
  | .hbm, ⟨3, _⟩ => ⟨S16, .f32⟩
  | .hbm, ⟨4, _⟩ => ⟨S2x8192x2048, .fp8e4m3⟩
  | .hbm, ⟨5, _⟩ => ⟨S16, .f32⟩
  | .hbm, ⟨6, _⟩ => ⟨S16x4, .f32⟩
  | .hbm, ⟨7, _⟩ => ⟨S16x1, .f32⟩
  | .hbm, ⟨8, _⟩ => ⟨S16x4, .f32⟩
  | .hbm, ⟨9, _⟩ => ⟨S16x4, .f32⟩
  | .hbm, ⟨10, _⟩ => ⟨S_, .f32⟩
  | .hbm, ⟨11, _⟩ => ⟨S16x4, .f32⟩
  | .hbm, ⟨12, _⟩ => ⟨S16x4, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .i1⟩
  | .hbm, ⟨18, _⟩ => ⟨S_, .i32⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S64, .i32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S2x2048x8192, .fp8e4m3⟩
  | .hbm, ⟨27, _⟩ => ⟨S2x8192x8192, .bf16⟩
  | .local _ .vmem, ⟨0, _⟩ => ⟨S1x8192x512, .fp8e4m3⟩
  | .local _ .vmem, ⟨1, _⟩ => ⟨S1x8192x512, .fp8e4m3⟩
  | .local _ .vmem, ⟨2, _⟩ => ⟨S1x8192x128, .fp8e4m3⟩
  | .local _ .vmem, ⟨3, _⟩ => ⟨S1x8192x128, .fp8e4m3⟩
  | .local _ .vmem, ⟨4, _⟩ => ⟨S1x128x8192, .fp8e4m3⟩
  | .local _ .vmem, ⟨5, _⟩ => ⟨S1x128x8192, .fp8e4m3⟩
  | .local _ .vmem, ⟨6, _⟩ => ⟨S1x8192x512, .bf16⟩
  | .local _ .vmem, ⟨7, _⟩ => ⟨S1x8192x512, .bf16⟩
  | .local _ .vmem, ⟨8, _⟩ => ⟨S8192x256, .f32⟩
  | .local _ .vmem, ⟨9, _⟩ => ⟨S8x256, .f32⟩
  | .local _ .smem, ⟨0, _⟩ => ⟨S64, .f32⟩
  | .local _ .smem, ⟨1, _⟩ => ⟨S64, .i32⟩
  | .local _ .smem, ⟨2, _⟩ => ⟨S16, .f32⟩
  | _, _ => ⟨S2x8192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c129_i32 : BitVec 32 := 129#32
  let v5 : BitVec 32 := Scalar.addi c0_i32_2 c129_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c127_i32 : BitVec 32 := 127#32
  let v6 : BitVec 32 := Scalar.minsi arg11 c127_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c32_i32 : BitVec 32 := 32#32
  let c0_i32_6 : BitVec 32 := 0#32
  let v13 : BitVec 1 := Scalar.cmpi .sgt c32_i32 c0_i32_6
  let v14 : BitVec 32 := Scalar.extui v13
  let c0_i32_7 : BitVec 32 := 0#32
  let v15 : BitVec 1 := Scalar.cmpi .slt c32_i32 c0_i32_7
  let v16 : BitVec 32 := Scalar.extui v15
  let v17 : BitVec 32 := Scalar.subi v14 v16
  let v18 : BitVec 1 := Scalar.cmpi .ne v12 v17
  let v19 : BitVec 32 := Scalar.remsi v6 c32_i32
  let c0_i32_8 : BitVec 32 := 0#32
  let v20 : BitVec 1 := Scalar.cmpi .ne v19 c0_i32_8
  let v21 : BitVec 1 := Scalar.andi v18 v20
  let v7 : BitVec 32 := Scalar.divsi v6 c32_i32
  let c1_i32_9 : BitVec 32 := 1#32
  let v22 : BitVec 32 := Scalar.subi v7 c1_i32_9
  let v23 : BitVec 32 := Scalar.select v21 v22 v7
  let c32_i32_10 : BitVec 32 := 32#32
  let v24 : BitVec 32 := Scalar.muli v23 c32_i32_10
  let v25 : BitVec 32 := Scalar.subi v6 v24
  let c256_i32 : BitVec 32 := 256#32
  let v26 : BitVec 32 := Scalar.muli v25 c256_i32
  v26
def k0_mult2 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c127_i32 : BitVec 32 := 127#32
  let v6 : BitVec 32 := Scalar.minsi arg11 c127_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c32_i32 : BitVec 32 := 32#32
  let c0_i32_6 : BitVec 32 := 0#32
  let v13 : BitVec 1 := Scalar.cmpi .sgt c32_i32 c0_i32_6
  let v14 : BitVec 32 := Scalar.extui v13
  let c0_i32_7 : BitVec 32 := 0#32
  let v15 : BitVec 1 := Scalar.cmpi .slt c32_i32 c0_i32_7
  let v16 : BitVec 32 := Scalar.extui v15
  let v17 : BitVec 32 := Scalar.subi v14 v16
  let v18 : BitVec 1 := Scalar.cmpi .ne v12 v17
  let v19 : BitVec 32 := Scalar.remsi v6 c32_i32
  let c0_i32_8 : BitVec 32 := 0#32
  let v20 : BitVec 1 := Scalar.cmpi .ne v19 c0_i32_8
  let v21 : BitVec 1 := Scalar.andi v18 v20
  let v7 : BitVec 32 := Scalar.divsi v6 c32_i32
  let c1_i32_9 : BitVec 32 := 1#32
  let v22 : BitVec 32 := Scalar.subi v7 c1_i32_9
  let v23 : BitVec 32 := Scalar.select v21 v22 v7
  let c128_i32 : BitVec 32 := 128#32
  let v28 : BitVec 32 := Scalar.muli v23 c128_i32
  v28
def k0_mult3 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c1_i32_11 : BitVec 32 := 1#32
  let v30 : BitVec 32 := Scalar.subi arg11 c1_i32_11
  let c0_i32_12 : BitVec 32 := 0#32
  let v31 : BitVec 32 := Scalar.maxsi v30 c0_i32_12
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi v31 c32_i32_13
  let c0_i32_18 : BitVec 32 := 0#32
  let v45 : BitVec 1 := Scalar.cmpi .ne v44 c0_i32_18
  let v46 : BitVec 1 := Scalar.andi v43 v45
  let v32 : BitVec 32 := Scalar.divsi v31 c32_i32_13
  let c1_i32_19 : BitVec 32 := 1#32
  let v47 : BitVec 32 := Scalar.subi v32 c1_i32_19
  let v48 : BitVec 32 := Scalar.select v46 v47 v32
  let c32_i32_20 : BitVec 32 := 32#32
  let v49 : BitVec 32 := Scalar.muli v48 c32_i32_20
  let v50 : BitVec 32 := Scalar.subi v31 v49
  let c256_i32_21 : BitVec 32 := 256#32
  let v51 : BitVec 32 := Scalar.muli v50 c256_i32_21
  v51
def k0_mult4 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c1_i32_11 : BitVec 32 := 1#32
  let v30 : BitVec 32 := Scalar.subi arg11 c1_i32_11
  let c0_i32_12 : BitVec 32 := 0#32
  let v31 : BitVec 32 := Scalar.maxsi v30 c0_i32_12
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi v31 c32_i32_13
  let c0_i32_18 : BitVec 32 := 0#32
  let v45 : BitVec 1 := Scalar.cmpi .ne v44 c0_i32_18
  let v46 : BitVec 1 := Scalar.andi v43 v45
  let v32 : BitVec 32 := Scalar.divsi v31 c32_i32_13
  let c1_i32_19 : BitVec 32 := 1#32
  let v47 : BitVec 32 := Scalar.subi v32 c1_i32_19
  let v48 : BitVec 32 := Scalar.select v46 v47 v32
  let c128_i32_22 : BitVec 32 := 128#32
  let v53 : BitVec 32 := Scalar.muli v48 c128_i32_22
  v53
def k0_off1 (k0_t1 : Fin k0_t1_loop.trips) : Fin 3 → Nat :=
  let c0 : Index := 0#32
  let c0_i32_2 : BitVec 32 := 0#32
  let c1_i32 : BitVec 32 := 1#32
  let arg11 : BitVec 32 := Scf.iv c0_i32_2 c1_i32 k0_t1
  let c127_i32 : BitVec 32 := 127#32
  let v6 : BitVec 32 := Scalar.minsi arg11 c127_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c32_i32 : BitVec 32 := 32#32
  let c0_i32_6 : BitVec 32 := 0#32
  let v13 : BitVec 1 := Scalar.cmpi .sgt c32_i32 c0_i32_6
  let v14 : BitVec 32 := Scalar.extui v13
  let c0_i32_7 : BitVec 32 := 0#32
  let v15 : BitVec 1 := Scalar.cmpi .slt c32_i32 c0_i32_7
  let v16 : BitVec 32 := Scalar.extui v15
  let v17 : BitVec 32 := Scalar.subi v14 v16
  let v18 : BitVec 1 := Scalar.cmpi .ne v12 v17
  let v19 : BitVec 32 := Scalar.remsi v6 c32_i32
  let c0_i32_8 : BitVec 32 := 0#32
  let v20 : BitVec 1 := Scalar.cmpi .ne v19 c0_i32_8
  let v21 : BitVec 1 := Scalar.andi v18 v20
  let v7 : BitVec 32 := Scalar.divsi v6 c32_i32
  let c1_i32_9 : BitVec 32 := 1#32
  let v22 : BitVec 32 := Scalar.subi v7 c1_i32_9
  let v23 : BitVec 32 := Scalar.select v21 v22 v7
  let c32_i32_10 : BitVec 32 := 32#32
  let v24 : BitVec 32 := Scalar.muli v23 c32_i32_10
  let v25 : BitVec 32 := Scalar.subi v6 v24
  let c256_i32 : BitVec 32 := 256#32
  let v26 : BitVec 32 := Scalar.muli v25 c256_i32
  let v27 : BitVec 32 := v26
  let v55 : Index := Scalar.indexCast v27
  let c128_i32 : BitVec 32 := 128#32
  let v28 : BitVec 32 := Scalar.muli v23 c128_i32
  let v29 : BitVec 32 := v28
  let v56 : Index := Scalar.indexCast v29
  ![0, v55.toNat, v56.toNat]
def k0_off2 (i : grid0.Coords) (k0_t1 : Fin k0_t1_loop.trips) : Fin 1 → Nat :=
  let arg1 : BitVec 32 := BitVec.ofNat 32 (i 1).val
  let c4_i32 : BitVec 32 := 4#32
  let v59 : BitVec 32 := Scalar.muli arg1 c4_i32
  let c0_i32_2 : BitVec 32 := 0#32
  let c1_i32 : BitVec 32 := 1#32
  let arg11 : BitVec 32 := Scf.iv c0_i32_2 c1_i32 k0_t1
  let c127_i32 : BitVec 32 := 127#32
  let v6 : BitVec 32 := Scalar.minsi arg11 c127_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c32_i32 : BitVec 32 := 32#32
  let c0_i32_6 : BitVec 32 := 0#32
  let v13 : BitVec 1 := Scalar.cmpi .sgt c32_i32 c0_i32_6
  let v14 : BitVec 32 := Scalar.extui v13
  let c0_i32_7 : BitVec 32 := 0#32
  let v15 : BitVec 1 := Scalar.cmpi .slt c32_i32 c0_i32_7
  let v16 : BitVec 32 := Scalar.extui v15
  let v17 : BitVec 32 := Scalar.subi v14 v16
  let v18 : BitVec 1 := Scalar.cmpi .ne v12 v17
  let v19 : BitVec 32 := Scalar.remsi v6 c32_i32
  let c0_i32_8 : BitVec 32 := 0#32
  let v20 : BitVec 1 := Scalar.cmpi .ne v19 c0_i32_8
  let v21 : BitVec 1 := Scalar.andi v18 v20
  let v7 : BitVec 32 := Scalar.divsi v6 c32_i32
  let c1_i32_9 : BitVec 32 := 1#32
  let v22 : BitVec 32 := Scalar.subi v7 c1_i32_9
  let v23 : BitVec 32 := Scalar.select v21 v22 v7
  let v60 : BitVec 32 := Scalar.addi v59 v23
  let v61 : Index := Scalar.indexCast v60
  ![v61.toNat]
def k0_off3 (i : grid0.Coords) (k0_t1 : Fin k0_t1_loop.trips) : Fin 1 → Nat :=
  let arg1 : BitVec 32 := BitVec.ofNat 32 (i 1).val
  let c4_i32_24 : BitVec 32 := 4#32
  let v67 : BitVec 32 := Scalar.muli arg1 c4_i32_24
  let c0_i32_2 : BitVec 32 := 0#32
  let c1_i32 : BitVec 32 := 1#32
  let arg11 : BitVec 32 := Scf.iv c0_i32_2 c1_i32 k0_t1
  let c1_i32_11 : BitVec 32 := 1#32
  let v30 : BitVec 32 := Scalar.subi arg11 c1_i32_11
  let c0_i32_12 : BitVec 32 := 0#32
  let v31 : BitVec 32 := Scalar.maxsi v30 c0_i32_12
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi v31 c32_i32_13
  let c0_i32_18 : BitVec 32 := 0#32
  let v45 : BitVec 1 := Scalar.cmpi .ne v44 c0_i32_18
  let v46 : BitVec 1 := Scalar.andi v43 v45
  let v32 : BitVec 32 := Scalar.divsi v31 c32_i32_13
  let c1_i32_19 : BitVec 32 := 1#32
  let v47 : BitVec 32 := Scalar.subi v32 c1_i32_19
  let v48 : BitVec 32 := Scalar.select v46 v47 v32
  let v68 : BitVec 32 := Scalar.addi v67 v48
  let v69 : Index := Scalar.indexCast v68
  ![v69.toNat]
def k0_off4 (i : grid0.Coords) : Fin 1 → Nat :=
  let arg1 : BitVec 32 := BitVec.ofNat 32 (i 1).val
  let v728 : Index := Scalar.indexCast arg1
  ![v728.toNat]
def k0_off5 (k0_t1 : Fin k0_t1_loop.trips) : Fin 3 → Nat :=
  let c0_346 : Index := 0#32
  let c0_i32_2 : BitVec 32 := 0#32
  let c1_i32 : BitVec 32 := 1#32
  let arg11 : BitVec 32 := Scf.iv c0_i32_2 c1_i32 k0_t1
  let c1_i32_11 : BitVec 32 := 1#32
  let v30 : BitVec 32 := Scalar.subi arg11 c1_i32_11
  let c0_i32_12 : BitVec 32 := 0#32
  let v31 : BitVec 32 := Scalar.maxsi v30 c0_i32_12
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c32_i32_13 : BitVec 32 := 32#32
  let c0_i32_16 : BitVec 32 := 0#32
  let v38 : BitVec 1 := Scalar.cmpi .sgt c32_i32_13 c0_i32_16
  let v39 : BitVec 32 := Scalar.extui v38
  let c0_i32_17 : BitVec 32 := 0#32
  let v40 : BitVec 1 := Scalar.cmpi .slt c32_i32_13 c0_i32_17
  let v41 : BitVec 32 := Scalar.extui v40
  let v42 : BitVec 32 := Scalar.subi v39 v41
  let v43 : BitVec 1 := Scalar.cmpi .ne v37 v42
  let v44 : BitVec 32 := Scalar.remsi v31 c32_i32_13
  let c0_i32_18 : BitVec 32 := 0#32
  let v45 : BitVec 1 := Scalar.cmpi .ne v44 c0_i32_18
  let v46 : BitVec 1 := Scalar.andi v43 v45
  let v32 : BitVec 32 := Scalar.divsi v31 c32_i32_13
  let c1_i32_19 : BitVec 32 := 1#32
  let v47 : BitVec 32 := Scalar.subi v32 c1_i32_19
  let v48 : BitVec 32 := Scalar.select v46 v47 v32
  let c32_i32_20 : BitVec 32 := 32#32
  let v49 : BitVec 32 := Scalar.muli v48 c32_i32_20
  let v50 : BitVec 32 := Scalar.subi v31 v49
  let c256_i32_21 : BitVec 32 := 256#32
  let v51 : BitVec 32 := Scalar.muli v50 c256_i32_21
  let v52 : BitVec 32 := v51
  let v736 : Index := Scalar.indexCast v52
  let c128_i32_22 : BitVec 32 := 128#32
  let v53 : BitVec 32 := Scalar.muli v48 c128_i32_22
  let v54 : BitVec 32 := v53
  let v737 : Index := Scalar.indexCast v54
  ![0, v736.toNat, v737.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8192x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x8192x8192 : Shape := ⟨3, ![2, 8192, 8192]⟩
abbrev S64 : Shape := ⟨1, ![64]⟩
abbrev S2x8192x2048 : Shape := ⟨3, ![2, 8192, 2048]⟩
abbrev S16 : Shape := ⟨1, ![16]⟩
abbrev S16x4 : Shape := ⟨2, ![16, 4]⟩
abbrev S16x1 : Shape := ⟨2, ![16, 1]⟩
abbrev S_ : Shape := ⟨0, ![]⟩
abbrev S2x8192x16x4x128 : Shape := ⟨5, ![2, 8192, 16, 4, 128]⟩
abbrev S2x8192x16x128 : Shape := ⟨4, ![2, 8192, 16, 128]⟩
abbrev S2x16x8192x8192x4 : Shape := ⟨5, ![2, 16, 8192, 8192, 4]⟩
abbrev S2x16x4x8192x8192 : Shape := ⟨5, ![2, 16, 4, 8192, 8192]⟩
abbrev S1x16x4x1x1 : Shape := ⟨5, ![1, 16, 4, 1, 1]⟩
abbrev S2x16x4x8192 : Shape := ⟨4, ![2, 16, 4, 8192]⟩
abbrev S2x16x4x8192x1 : Shape := ⟨5, ![2, 16, 4, 8192, 1]⟩
abbrev S2x16x128x4x8192 : Shape := ⟨5, ![2, 16, 128, 4, 8192]⟩
abbrev S1x1x16x1x1 : Shape := ⟨5, ![1, 1, 16, 1, 1]⟩
abbrev S2x8192x16x4 : Shape := ⟨4, ![2, 8192, 16, 4]⟩
abbrev S2x8192x16x4x1 : Shape := ⟨5, ![2, 8192, 16, 4, 1]⟩

abbrev nBuf : Space → Nat
  | .hbm => 14
  | .vmem => 6
  | .smem => 0
  | _ => 0

abbrev bufTy : (tb : Table) → Fin (tcTables nBuf tb) → BufTy
  | .hbm, ⟨0, _⟩ => ⟨S2x8192x8192, .fp8e4m3⟩
  | .hbm, ⟨1, _⟩ => ⟨S64, .f32⟩
  | .hbm, ⟨2, _⟩ => ⟨S2x8192x2048, .fp8e4m3⟩
  | .hbm, ⟨3, _⟩ => ⟨S16, .f32⟩
  | .hbm, ⟨4, _⟩ => ⟨S2x8192x2048, .fp8e4m3⟩
  | .hbm, ⟨5, _⟩ => ⟨S16, .f32⟩
  | .hbm, ⟨6, _⟩ => ⟨S16x4, .f32⟩
  | .hbm, ⟨7, _⟩ => ⟨S16x1, .f32⟩
  | .hbm, ⟨8, _⟩ => ⟨S16x4, .f32⟩
  | .hbm, ⟨9, _⟩ => ⟨S16x4, .f32⟩
  | .hbm, ⟨10, _⟩ => ⟨S_, .f32⟩
  | .hbm, ⟨11, _⟩ => ⟨S16x4, .f32⟩
  | .hbm, ⟨12, _⟩ => ⟨S16x4, .f32⟩
  | .hbm, ⟨13, _⟩ => ⟨S2x8192x8192, .bf16⟩
  | .local _ .vmem, ⟨0, _⟩ => ⟨S2x8192x8192, .fp8e4m3⟩
  | .local _ .vmem, ⟨1, _⟩ => ⟨S16x4, .f32⟩
  | .local _ .vmem, ⟨2, _⟩ => ⟨S2x8192x2048, .fp8e4m3⟩
  | .local _ .vmem, ⟨3, _⟩ => ⟨S2x8192x2048, .fp8e4m3⟩
  | .local _ .vmem, ⟨4, _⟩ => ⟨S16, .f32⟩
  | .local _ .vmem, ⟨5, _⟩ => ⟨S2x8192x8192, .bf16⟩
  | _, _ => ⟨S2x8192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x8192x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8192x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8192x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelBody.lean ====
module

public import proofs.«01_k».proof.Proof.Gen.Kernel.Loops
public import proofs.«01_k».proof.Proof.Gen.Kernel.Frame

/-! # One call of the kernel body

What one grid point does to the buffers it is handed, at any values: the inputs are read and kept, the output block is left
with the pieces the loop stores (`pb_k0_t1`), written over some contents the loop found, and the two scratch buffers
are left at anything.  The loop is the same whether or not the point clears the scratch first. -/

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Clearing the scratch: the two buffers are stored whole, and whatever runs next finds them at some contents. -/
theorem clear_run (c : Dev nD) (arg9 : Memref sig .tc .vmem S8192x256 .f32) (harg9 : arg9.IsWhole) (arg10 : Memref sig .tc .vmem S8x256 .f32) (harg10 : arg10.IsWhole)
    (E : Set ℕ) (K : PUnit → sProp 𝕄) (rest : Prog (TpuEff nD τ sig (Elt F) Λ₀ .tc) PUnit)
    (f9 : BufTy.Contents (Elt F) arg9.view.ty) (f10 : BufTy.Contents (Elt F) arg10.view.ty) :
    iprop((arg9.view.loc (c : Thread nD τ) ↦[arg9.view.set]{fullShare} f9) ∗ (arg10.view.loc (c : Thread nD τ) ↦[arg10.view.set]{fullShare} f10)
        ∗ ((∃ g, arg9.view.loc (c : Thread nD τ) ↦[arg9.view.set]{fullShare} g) ∗ (∃ g, arg10.view.loc (c : Thread nD τ) ↦[arg10.view.set]{fullShare} g)
            -∗ wp frame (wpE (defs₀ (F := F)) Variants.none (c : Thread nD τ) none) E rest K))
      ⊢ wp frame (wpE (defs₀ (F := F)) Variants.none (c : Thread nD τ) none) E
          (do
            let _ ← Prog.lift (.load arg9 (Rect.unit (s := S8192x256) ![0, 0] S8192x256.size inb_S8192x256_S8192x256_0_0).toLoadRect (View.loadsAt_vmem h_S8192x256))
            Prog.lift (.store arg9 (Rect.unit (s := S8192x256) ![0, 0] S8192x256.size inb_S8192x256_S8192x256_0_0) (k0_pay1 (F := F)) Finset.univ (View.stores_vmem_bits_univ h_S8192x256 rfl) (.inl rfl))
            let _ ← Prog.lift (.load arg10 (Rect.unit (s := S8x256) ![0, 0] S8x256.size inb_S8x256_S8x256_0_0).toLoadRect (View.loadsAt_vmem h_S8x256))
            Prog.lift (.store arg10 (Rect.unit (s := S8x256) ![0, 0] S8x256.size inb_S8x256_S8x256_0_0) (k0_pay2 (F := F)) Finset.univ (View.stores_vmem_bits_univ h_S8x256 rfl) (.inl rfl))
            rest) K := by
  iintro ⟨H9, H10, Hk⟩
  sl_exec
  iapply Hk
  isplitl [H9]
  · iexists _; iexact H9
  iexists _; iexact H10

/-- What the loop leaves in the output's buffer: its pieces written over the contents `G8` it found, the scratch at `G9` and `G10`. -/
def looped (c : Dev nD) (i : grid0.Coords) (arg2 : Memref sig .tc .smem S64 .f32) (harg2 : arg2.IsWhole) (arg3 : Memref sig .tc .smem S64 .i32) (harg3 : arg3.IsWhole) (arg4 : Memref sig .tc .smem S16 .f32) (harg4 : arg4.IsWhole)
    (arg5 : Memref sig .tc .vmem S1x8192x512 .fp8e4m3) (harg5 : arg5.IsWhole) (arg6 : Memref sig .tc .vmem S1x8192x128 .fp8e4m3) (harg6 : arg6.IsWhole) (arg7 : Memref sig .tc .vmem S1x128x8192 .fp8e4m3) (harg7 : arg7.IsWhole)
    (arg8 : Memref sig .tc .vmem S1x8192x512 .bf16) (harg8 : arg8.IsWhole) (arg9 : Memref sig .tc .vmem S8192x256 .f32) (harg9 : arg9.IsWhole) (arg10 : Memref sig .tc .vmem S8x256 .f32) (harg10 : arg10.IsWhole)
    (x0 : Vec F S64 .f32) (x1 : Vec F S64 .i32) (x2 : Vec F S16 .f32) (x3 : Vec F S1x8192x512 .fp8e4m3) (x4 : Vec F S1x8192x128 .fp8e4m3) (x5 : Vec F S1x128x8192 .fp8e4m3)
    (G8 : BufTy.Contents (Elt F) arg8.view.ty) (G9 : BufTy.Contents (Elt F) arg9.view.ty) (G10 : BufTy.Contents (Elt F) arg10.view.ty) :
    BufTy.Contents (Elt F) arg8.view.ty :=
  arg8.view.writes (Elt F) G8 (pb_k0_t1 (F := F) Variants.none c none i arg2 harg2 arg3 harg3 arg4 harg4 arg5 harg5 arg6 harg6 arg7 harg7 arg8 harg8 arg9 harg9 arg10 harg10 (BitVec.ofNat 32 (i 1).val)
    (harg2.unread x0) (harg3.unread x1) (harg4.unread x2) (harg5.unread x3) (harg6.unread x4) (harg7.unread x5) G8 G9 G10 k0_t1_loop.trips).1

/-- The loop, from any contents of the output's buffer and of the scratch. -/
theorem loop_run (c : Dev nD) (i : grid0.Coords) (arg2 : Memref sig .tc .smem S64 .f32) (harg2 : arg2.IsWhole) (arg3 : Memref sig .tc .smem S64 .i32) (harg3 : arg3.IsWhole) (arg4 : Memref sig .tc .smem S16 .f32) (harg4 : arg4.IsWhole)
    (arg5 : Memref sig .tc .vmem S1x8192x512 .fp8e4m3) (harg5 : arg5.IsWhole) (arg6 : Memref sig .tc .vmem S1x8192x128 .fp8e4m3) (harg6 : arg6.IsWhole) (arg7 : Memref sig .tc .vmem S1x128x8192 .fp8e4m3) (harg7 : arg7.IsWhole)
    (arg8 : Memref sig .tc .vmem S1x8192x512 .bf16) (harg8 : arg8.IsWhole) (arg9 : Memref sig .tc .vmem S8192x256 .f32) (harg9 : arg9.IsWhole) (arg10 : Memref sig .tc .vmem S8x256 .f32) (harg10 : arg10.IsWhole)
    (x0 : Vec F S64 .f32) (x1 : Vec F S64 .i32) (x2 : Vec F S16 .f32) (x3 : Vec F S1x8192x512 .fp8e4m3) (x4 : Vec F S1x8192x128 .fp8e4m3) (x5 : Vec F S1x128x8192 .fp8e4m3)
    (f8 : BufTy.Contents (Elt F) arg8.view.ty) (f9 : BufTy.Contents (Elt F) arg9.view.ty) (f10 : BufTy.Contents (Elt F) arg10.view.ty)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ G8 G9 G10, arg8.view.loc (c : Thread nD τ) ↦[arg8.view.set]{fullShare} looped c i arg2 harg2 arg3 harg3 arg4 harg4 arg5 harg5 arg6 harg6 arg7 harg7 arg8 harg8 arg9 harg9 arg10 harg10 x0 x1 x2 x3 x4 x5 G8 G9 G10) ∗ (∃ d, owns (c : Thread nD τ) arg9 fullShare d) ∗ (∃ d, owns (c : Thread nD τ) arg10 fullShare d)) -∗ K ⟨⟩))
      ⊢ wp frame (wpE (defs₀ (F := F)) Variants.none (c : Thread nD τ) none) E
          (do
            Scf.Loop.for k0_t1_loop k0_t1_ok ⟨⟩ (k0_t1_body i arg2 harg2 arg3 harg3 arg4 harg4 arg5 harg5 arg6 harg6 arg7 harg7 arg8 harg8 arg9 harg9 arg10 harg10 (BitVec.ofNat 32 (i 1).val))
            pure ⟨⟩) K := by
  unfold owns looped
  iintro ⟨⟨%g0, %hg0, H0⟩, ⟨%g1, %hg1, H1⟩, ⟨%g2, %hg2, H2⟩, ⟨%g3, %hg3, H3⟩, ⟨%g4, %hg4, H4⟩, ⟨%g5, %hg5, H5⟩, H6, HS0, HS1, Hk⟩
  obtain rfl := harg2.eq_unread hg0; obtain rfl := harg3.eq_unread hg1; obtain rfl := harg4.eq_unread hg2
  obtain rfl := harg5.eq_unread hg3; obtain rfl := harg6.eq_unread hg4; obtain rfl := harg7.eq_unread hg5
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists f8, f9, f10; iexact H6
  isplitl [HS0]
  · iexists _, _; isplitr; swap; · iexact HS0
    ipureintro; rfl
  iexists _, _; isplitr; swap; · iexact HS1
  ipureintro; rfl

/-- THE BODY: from the inputs' blocks, and the output's buffer and the scratch at anything. -/
theorem body_run (c : Dev nD) (i : grid0.Coords) (arg2 : Memref sig .tc .smem S64 .f32) (harg2 : arg2.IsWhole) (arg3 : Memref sig .tc .smem S64 .i32) (harg3 : arg3.IsWhole) (arg4 : Memref sig .tc .smem S16 .f32) (harg4 : arg4.IsWhole)
    (arg5 : Memref sig .tc .vmem S1x8192x512 .fp8e4m3) (harg5 : arg5.IsWhole) (arg6 : Memref sig .tc .vmem S1x8192x128 .fp8e4m3) (harg6 : arg6.IsWhole) (arg7 : Memref sig .tc .vmem S1x128x8192 .fp8e4m3) (harg7 : arg7.IsWhole)
    (arg8 : Memref sig .tc .vmem S1x8192x512 .bf16) (harg8 : arg8.IsWhole) (arg9 : Memref sig .tc .vmem S8192x256 .f32) (harg9 : arg9.IsWhole) (arg10 : Memref sig .tc .vmem S8x256 .f32) (harg10 : arg10.IsWhole)
    (x0 : Vec F S64 .f32) (x1 : Vec F S64 .i32) (x2 : Vec F S16 .f32) (x3 : Vec F S1x8192x512 .fp8e4m3) (x4 : Vec F S1x8192x128 .fp8e4m3) (x5 : Vec F S1x128x8192 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ G8 G9 G10, arg8.view.loc (c : Thread nD τ) ↦[arg8.view.set]{fullShare} looped c i arg2 harg2 arg3 harg3 arg4 harg4 arg5 harg5 arg6 harg6 arg7 harg7 arg8 harg8 arg9 harg9 arg10 harg10 x0 x1 x2 x3 x4 x5 G8 G9 G10) ∗ (∃ d, owns (c : Thread nD τ) arg9 fullShare d) ∗ (∃ d, owns (c : Thread nD τ) arg10 fullShare d)) -∗ K ⟨⟩))
      ⊢ wp frame (wpE (defs₀ (F := F)) Variants.none (c : Thread nD τ) none) E (cc0_fp8_gqa_attention i arg2 harg2 arg3 harg3 arg4 harg4 arg5 harg5 arg6 harg6 arg7 harg7 arg8 harg8 arg9 harg9 arg10 harg10) K := by
  rw [cc0_fp8_gqa_attention_eq_skeleton]; unfold cc0_fp8_gqa_attention_skel
  dsimp only
  iintro ⟨H0, H1, H2, H3, H4, H5, ⟨%d8, H6⟩, ⟨%d9, HS0⟩, ⟨%d10, HS1⟩, Hk⟩
  unfold owns
  icases H6 with ⟨%f8, -, H6⟩
  icases HS0 with ⟨%f9, -, HS0⟩
  icases HS1 with ⟨%f10, -, HS1⟩
  split
  · iapply (clear_run c arg9 harg9 arg10 harg10 E K _ f9 f10)
    isplitl [HS0]; · iexact HS0
    isplitl [HS1]; · iexact HS1
    iintro ⟨⟨%g9, HS0⟩, ⟨%g10, HS1⟩⟩
    iapply (loop_run c i arg2 harg2 arg3 harg3 arg4 harg4 arg5 harg5 arg6 harg6 arg7 harg7 arg8 harg8 arg9 harg9 arg10 harg10 x0 x1 x2 x3 x4 x5 f8 g9 g10 E K)
    unfold owns
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iexact Hk
  · iapply (loop_run c i arg2 harg2 arg3 harg3 arg4 harg4 arg5 harg5 arg6 harg6 arg7 harg7 arg8 harg8 arg9 harg9 arg10 harg10 x0 x1 x2 x3 x4 x5 f8 f9 f10 E K)
    unfold owns
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iexact Hk

end Cert.Kernel.Body

end
-- ==== Proof.KernelFrame.lean ====
module

public import proofs.«01_k».proof.Proof.KernelBody
public import Idealize.ShloMosaic.Lib.Claim

/-! # The kernel as compiled: it ends, and leaves its arguments alone

At any values: the body obligation with the output block forgotten, the run, and the frame. -/

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffers and the scratch, by name. -/
abbrev ms0_0 (t : Fin cfg0.N) : Memref sig .tc .smem S64 .f32 := win0_0.stage (cfg0.slots t 0)
abbrev ms0_1 (t : Fin cfg0.N) : Memref sig .tc .smem S64 .i32 := win0_1.stage (cfg0.slots t 1)
abbrev ms0_2 (t : Fin cfg0.N) : Memref sig .tc .smem S16 .f32 := win0_2.stage (cfg0.slots t 2)
abbrev ms0_3 (t : Fin cfg0.N) : Memref sig .tc .vmem S1x8192x512 .fp8e4m3 := win0_3.stage (cfg0.slots t 3)
abbrev ms0_4 (t : Fin cfg0.N) : Memref sig .tc .vmem S1x8192x128 .fp8e4m3 := win0_4.stage (cfg0.slots t 4)
abbrev ms0_5 (t : Fin cfg0.N) : Memref sig .tc .vmem S1x128x8192 .fp8e4m3 := win0_5.stage (cfg0.slots t 5)
abbrev ms0_6 (t : Fin cfg0.N) : Memref sig .tc .vmem S1x8192x512 .bf16 := win0_6.stage (cfg0.slots t 6)
abbrev scM0_0 : Memref sig .tc .vmem S8192x256 .f32 := Memref.whole cc0_scratch0
abbrev scM0_1 : Memref sig .tc .vmem S8x256 .f32 := Memref.whole cc0_scratch1

/-- The invariant between grid points: the scratch at anything, and the generator's register. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The output window is the one whose contents are not stated. -/
def forgets : Fin 7 → Bool := fun w => w.val == 6

/-- The proof data: the arrays as the region finds them; each input's buffer keeps its block; the output's is unnamed; the
invariant owns the scratch at anything; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 1600000 in
/-- The body at any point, from its inputs' blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5]
  rw [show (dats m 0 c).Φ t.succ = Pipeline.ΦA spec0 c from rfl, show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%G8, %G9, %G10, H6⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns
  iexists _, _; isplitr; swap; · iexact H6
  ipureintro; rfl

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Pipeline.ΦA spec0 c from rfl]

set_option backward.isDefEq.respectTransparency.types false in
/-- The run: every execution ends, with every semaphore counter at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: every execution ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      (Pipeline.RDat.FramePost.arr_in h.1 c 3 rfl).trans ((A_eq m c 3).trans (V_main_arg0 m c)),
      ((h.1 c).2 main_arg1 (Pipeline.mem_restRefs_of main_arg1 (by decide) (by decide))).trans (V_main_arg1 m c),
      (Pipeline.RDat.FramePost.arr_in h.1 c 4 rfl).trans ((A_eq m c 4).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main m ρ)

end Cert.Kernel.Body

end
-- ==== Proof.Trip.lean ====
module

public import proofs.«01_k».proof.Proof.Gen.KernelIdeal.Loops
import all proofs.«01_k».proof.Proof.Gen.KernelIdeal.Loops

/-! # One trip of the loop, as vectors

The loop body unrolls one tile's chunks by hand.  Here the same chain is written as recursions over the chunk number, and
a trip is said to store: the output tile made of the scores the scratch held, the raw scores of the next tile, and
their row of scaled maxima. -/

@[expose] public section

set_option maxRecDepth 16384

noncomputable section

namespace Cert.KernelIdeal.Trip

open Cert.KernelIdeal.Gen
open Idealize.ShloMosaic Idealize.ShloMosaic.TcCoe

variable {F : FTy → Type} [FloatOps F] [Named F]

/-- The weights of one chunk of 256 keys: the exponentials of the scaled scores above the subtracted row. -/
def weights (c2 : F .f32) (m2 : Vec F S1x256 .f32) (s : Vec F S256x256 .f32) : FVec F S256x256 .f32 :=
  exp2 (subf (mulf s (broadcast S256x256 c2)) (broadcastTo S256x256 m2 broadcasts_S1x256_S256x256))

/-- The weights cut to what the narrow format holds. -/
def cut (e : FVec F S256x256 .f32) : FVec F S256x256 .fp8e4m3 :=
  truncf .fp8e4m3 (minimumf (broadcast S256x256 (Scalar.ofBits .f32 0x43E00000#32)) (maximumf (broadcast S256x256 (Scalar.ofBits .f32 0xC3E00000#32)) e)) bitsLt_fp8e4m3_f32

/-- The running sums of the weights, in 32 rows, after `n` chunks `e 0, …, e (n - 1)`. -/
def sums (e : ℕ → FVec F S256x256 .f32) : ℕ → FVec F S32x256 .f32
  | 0 => broadcast S32x256 (Scalar.ofBits .f32 0x00000000#32)
  | n + 1 => addf (sums e n) (multiReduction .add [0] S32x256 (shapeCast S8x32x256 (e n) shapeCasts_S256x256_S8x32x256) 0x00000000#32 reduces_S8x32x256_S32x256 (.inl rfl) rfl)

/-- The running products of the values with the cut weights after `n` chunks. -/
def prods (v : ℕ → Vec F S1x128x256 .fp8e4m3) (e : ℕ → FVec F S256x256 .f32) : ℕ → FVec F S128x256 .f32
  | 0 => broadcast S128x256 (Scalar.ofBits .f32 0x00000000#32)
  | n + 1 => addf (prods v e n) (matmul dot_S128x256_S256x256_S128x256_1_0_0_1_n_n none (shapeCast S128x256 (v n) shapeCasts_S1x128x256_S128x256) (cut (e n)) (constant S128x256 .f32 0x00000000#32))

/-- The raw scores of one chunk of 1024 keys. -/
def scores (q : FVec F S256x128 .fp8e4m3) (k : Vec F S1x1024x128 .fp8e4m3) : FVec F S1024x256 .f32 :=
  matmul dot_S1024x128_S256x128_S1024x256_1_1_0_0_n_n none (shapeCast S1024x128 k shapeCasts_S1x1024x128_S1024x128) q (constant S1024x256 .f32 0x00000000#32)

/-- The running maxima of the raw scores, in 32 rows, after `n` chunks. -/
def maxs (s : ℕ → FVec F S1024x256 .f32) : ℕ → FVec F S32x256 .f32
  | 0 => broadcast S32x256 (Scalar.ofBits .f32 0xFF800000#32)
  | n + 1 => maximumf (maxs s n) (multiReduction .maximumf [0] S32x256 (shapeCast S32x32x256 (s n) shapeCasts_S1024x256_S32x32x256) 0xFF800000#32 reduces_S32x32x256_S32x256 (.inl rfl) rfl)

/-- The output tile: the products scaled and divided by the sums of the weights, transposed. -/
def outTile (o : FVec F S128x256 .f32) (l : FVec F S32x256 .f32) (osc : F .f32) : FVec F S1x256x128 .bf16 :=
  shapeCast S1x256x128 (truncf .bf16 (transpose S256x128 [1, 0]
    (divf (mulf o (broadcast S128x256 osc))
      (broadcastTo S128x256 (mulf (shapeCast S1x256 (multiReduction .add [0] S256 l 0x00000000#32 reduces_S32x256_S256 (.inl rfl) rfl) shapeCasts_S256_S1x256)
        (broadcast S1x256 (Scalar.ofBits .f32 0x3B800000#32))) broadcasts_S1x256_S128x256)) transposes_S128x256_p1_0_S256x128) bitsLt_bf16_f32) shapeCasts_S256x128_S1x256x128

/-- The row the next trip subtracts: the scaled maxima less eight, in all eight rows. -/
def maxRow (mx : FVec F S32x256 .f32) (c2 : F .f32) : FVec F S8x256 .f32 :=
  k0_pay3 (mulf (shapeCast S1x256 (multiReduction .maximumf [0] S256 mx 0xFF800000#32 reduces_S32x256_S256 (.inl rfl) rfl) shapeCasts_S256_S1x256)
    (broadcast S1x256 (k0_pay5 c2))) k0_pay111

/-- Chunk `n` of 256 rows of the scores. -/
theorem inb_scores (n : ℕ) : ∀ a, (![256 * (n % 32), 0] : Fin 2 → ℕ) a + S256x256.size a ≤ S8192x256.size a := by
  intro a; fin_cases a <;> simp <;> omega
/-- Chunk `n` of 256 columns of the values. -/
theorem inb_values (n : ℕ) : ∀ a, (![0, 0, 256 * (n % 32)] : Fin 3 → ℕ) a + S1x128x256.size a ≤ S1x128x8192.size a := by
  intro a; fin_cases a <;> simp <;> omega
/-- Chunk `n` of 1024 rows of the keys. -/
theorem inb_keys (n : ℕ) : ∀ a, (![0, 1024 * (n % 8), 0] : Fin 3 → ℕ) a + S1x1024x128.size a ≤ S1x8192x128.size a := by
  intro a; fin_cases a <;> simp <;> omega
/-- Chunk `n` of 1024 rows of the scores. -/
theorem inb_stored (n : ℕ) : ∀ a, (![1024 * (n % 8), 0] : Fin 2 → ℕ) a + S1024x256.size a ≤ S8192x256.size a := by
  intro a; fin_cases a <;> simp <;> omega

section Reads

variable (i : grid0.Coords) (arg2 : Memref sig .tc .smem S64 .f32) (arg3 : Memref sig .tc .smem S64 .i32) (arg4 : Memref sig .tc .smem S16 .f32)
  (arg5 : Memref sig .tc .vmem S1x8192x512 .fp8e4m3) (arg6 : Memref sig .tc .vmem S1x8192x128 .fp8e4m3) (arg7 : Memref sig .tc .vmem S1x128x8192 .fp8e4m3)
  (arg9 : Memref sig .tc .vmem S8192x256 .f32) (arg10 : Memref sig .tc .vmem S8x256 .f32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (f9 : BufTy.Contents (Elt F) arg9.view.ty) (f10 : BufTy.Contents (Elt F) arg10.view.ty)
  (k : Fin k0_t1_loop.trips)

/-- The query tile of the trip, its sign turned where the head's flag is set. -/
def query : FVec F S256x128 .fp8e4m3 :=
  k0_pay4 (View.readAt (Elt F) arg5.view (Rect.unit (s := S1x8192x512) (k0_off1 k) S1x256x128.size (k0_off1_inb k)).toLoadRect X5)
    (View.readAt (Elt F) arg3.view (Rect.unit (s := S64) (k0_off2 i k) S1.size (k0_off2_inb i k)).toLoadRect X3 (Shape.Idx.first (s := S1) (by decide)))
/-- The scale of the tile being finished. -/
def scaleB : F .f32 := View.readAt (Elt F) arg2.view (Rect.unit (s := S64) (k0_off3 i k) S1.size (k0_off3_inb i k)).toLoadRect X2 (Shape.Idx.first (s := S1) (by decide))
/-- The scale of the tile being started. -/
def scaleA : F .f32 := View.readAt (Elt F) arg2.view (Rect.unit (s := S64) (k0_off2 i k) S1.size (k0_off2_inb i k)).toLoadRect X2 (Shape.Idx.first (s := S1) (by decide))
/-- The output scale of the grid point's head. -/
def outScale : F .f32 := View.readAt (Elt F) arg4.view (Rect.unit (s := S16) (k0_off4 i) S1.size (k0_off4_inb i)).toLoadRect X4 (Shape.Idx.first (s := S1) (by decide))

/-- The chunks the trip reads. -/
def keyChunk (n : ℕ) : Vec F S1x1024x128 .fp8e4m3 := View.readAt (Elt F) arg6.view (Rect.unit (s := S1x8192x128) ![0, 1024 * (n % 8), 0] S1x1024x128.size (inb_keys n)).toLoadRect X6
def valChunk (n : ℕ) : Vec F S1x128x256 .fp8e4m3 := View.readAt (Elt F) arg7.view (Rect.unit (s := S1x128x8192) ![0, 0, 256 * (n % 32)] S1x128x256.size (inb_values n)).toLoadRect X7
def scoreChunk (n : ℕ) : Vec F S256x256 .f32 := View.readAt (Elt F) arg9.view (Rect.unit (s := S8192x256) ![256 * (n % 32), 0] S256x256.size (inb_scores n)).toLoadRect f9

/-- The weights of chunk `n`. -/
def chunkWeights (n : ℕ) : FVec F S256x256 .f32 :=
  weights (k0_pay5 (scaleB i arg2 X2 k)) (View.readAt (Elt F) arg10.view (Rect.unit (s := S8x256) ![0, 0] S1x256.size inb_S8x256_S1x256_0_0).toLoadRect f10) (scoreChunk arg9 f9 n)

/-- The scores of chunk `n` of the tile being started. -/
def chunkScores (n : ℕ) : FVec F S1024x256 .f32 := scores (query i arg3 arg5 X3 X5 k) (keyChunk arg6 X6 n)

/-- The piece of the scratch that chunk `n` of the scores fills. -/
def piece (n : ℕ) : View.Piece (Elt F) S8192x256 .f32 :=
  ⟨Rect.unit (s := S8192x256) ![1024 * (n % 8), 0] S1024x256.size (inb_stored n), shapeCast S1024x256 (chunkScores i arg3 arg5 arg6 X3 X5 X6 k n) shapeCasts_S1024x256_S1024x256⟩

end Reads

section Eq

variable (𝒱 : Variants) (c : Dev nD) (bd : Option 𝒱.V) (i : grid0.Coords) (arg2 : Memref sig .tc .smem S64 .f32) (harg2 : arg2.IsWhole) (arg3 : Memref sig .tc .smem S64 .i32) (harg3 : arg3.IsWhole) (arg4 : Memref sig .tc .smem S16 .f32) (harg4 : arg4.IsWhole)
  (arg5 : Memref sig .tc .vmem S1x8192x512 .fp8e4m3) (harg5 : arg5.IsWhole) (arg6 : Memref sig .tc .vmem S1x8192x128 .fp8e4m3) (harg6 : arg6.IsWhole) (arg7 : Memref sig .tc .vmem S1x128x8192 .fp8e4m3) (harg7 : arg7.IsWhole)
  (arg8 : Memref sig .tc .vmem S1x8192x512 .bf16) (harg8 : arg8.IsWhole) (arg9 : Memref sig .tc .vmem S8192x256 .f32) (harg9 : arg9.IsWhole) (arg10 : Memref sig .tc .vmem S8x256 .f32) (harg10 : arg10.IsWhole)
  (arg1 : BitVec 32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (k : Fin k0_t1_loop.trips)
  (f8 : BufTy.Contents (Elt F) arg8.view.ty) (f9 : BufTy.Contents (Elt F) arg9.view.ty) (f10 : BufTy.Contents (Elt F) arg10.view.ty)

/-- A trip stores one tile of the output, -/
theorem trip_out : (tripL_k0_t1 𝒱 c bd i arg2 harg2 arg3 harg3 arg4 harg4 arg5 harg5 arg6 harg6 arg7 harg7 arg8 harg8 arg9 harg9 arg10 harg10 arg1 X2 X3 X4 X5 X6 X7 k f8 f9 f10).1
    = [⟨Rect.unit (s := S1x8192x512) (k0_off5 k) S1x256x128.size (k0_off5_inb k),
        outTile (prods (valChunk arg7 X7) (chunkWeights i arg2 arg9 arg10 X2 f9 f10 k) 32) (sums (chunkWeights i arg2 arg9 arg10 X2 f9 f10 k) 32) (outScale i arg4 X4)⟩] := by
  unfold tripL_k0_t1; delta trip_k0_t1; dsimp only
  rfl

/-- the scores of the next tile, chunk by chunk, -/
theorem trip_scores : (tripL_k0_t1 𝒱 c bd i arg2 harg2 arg3 harg3 arg4 harg4 arg5 harg5 arg6 harg6 arg7 harg7 arg8 harg8 arg9 harg9 arg10 harg10 arg1 X2 X3 X4 X5 X6 X7 k f8 f9 f10).2.1
    = [piece i arg3 arg5 arg6 X3 X5 X6 k 7, piece i arg3 arg5 arg6 X3 X5 X6 k 6, piece i arg3 arg5 arg6 X3 X5 X6 k 5, piece i arg3 arg5 arg6 X3 X5 X6 k 4,
        piece i arg3 arg5 arg6 X3 X5 X6 k 3, piece i arg3 arg5 arg6 X3 X5 X6 k 2, piece i arg3 arg5 arg6 X3 X5 X6 k 1, piece i arg3 arg5 arg6 X3 X5 X6 k 0] := by
  unfold tripL_k0_t1; delta trip_k0_t1; dsimp only
  rfl

/-- and the row of its maxima. -/
theorem trip_max : (tripL_k0_t1 𝒱 c bd i arg2 harg2 arg3 harg3 arg4 harg4 arg5 harg5 arg6 harg6 arg7 harg7 arg8 harg8 arg9 harg9 arg10 harg10 arg1 X2 X3 X4 X5 X6 X7 k f8 f9 f10).2.2
    = [⟨Rect.unit (s := S8x256) ![0, 0] S8x256.size inb_S8x256_S8x256_0_0, maxRow (maxs (chunkScores i arg3 arg5 arg6 X3 X5 X6 k) 8) (scaleA i arg2 X2 k)⟩] := by
  unfold tripL_k0_t1; delta trip_k0_t1; dsimp only
  rfl

end Eq

end Cert.KernelIdeal.Trip

end
-- ==== Proof.Row.lean ====
/- One output element of softmax attention over the extended reals, in the two forms the programs use.
   `kernelRow` works in base two with the probabilities scaled by 256 throughout; `referenceRow` is the plain
   softmax with the probabilities scaled by 256 just before they are clipped. They are equal whenever the head's
   combined scale is not negative. -/
module

public import Idealize.ShloMosaic.PureOps.Ideal

@[expose] public section

noncomputable section

namespace Cert.Attention

open Idealize.ShloMosaic

/-- The logarithm to base two of `e`: `1 / log 2`. -/
abbrev log2e : EReal := (((Real.log 2)⁻¹ : ℝ) : EReal)

/-- Clipping to the range of the 8-bit format the probabilities are stored in: between -448 and 448. -/
def clip (e : EReal) : EReal := min (Ideal.ofBits .f32 0x43E00000#32) (max (Ideal.ofBits .f32 0xC3E00000#32) e)

/-- The greatest of the scores of one query row. -/
def top {n : ℕ} (S : Fin n → EReal) : EReal := Finset.univ.fold max ⊥ S

/-- The kernel's weight of one score: two to the power of the scaled score less the scaled maximum, plus 8. -/
def weight (M c s : EReal) : EReal := Ideal.exp2 (s * c - M)

/-- One output element as the kernel computes it: `S` the raw scores of the query row, `c` the head's combined scale
    (its absolute value), `osc` the output scale, `v` the value column. -/
def kernelRow {n : ℕ} (S : Fin n → EReal) (c osc : EReal) (v : Fin n → EReal) : EReal :=
  Ideal.div ((∑ j, v j * clip (weight (top S * (c * log2e) - Ideal.ofBits .f32 0x41000000#32) (c * log2e) (S j))) * osc)
    ((∑ j, weight (top S * (c * log2e) - Ideal.ofBits .f32 0x41000000#32) (c * log2e) (S j)) * Ideal.ofBits .f32 0x3B800000#32)

/-- One output element as the reference computes it. -/
def referenceRow {n : ℕ} (S : Fin n → EReal) (c osc : EReal) (v : Fin n → EReal) : EReal :=
  Ideal.div ((∑ j, v j * clip (Ideal.exp (S j * c - top fun j => S j * c) * Ideal.ofBits .f32 0x43800000#32)) * osc)
    (∑ j, Ideal.exp (S j * c - top fun j => S j * c))

/-! ### The constants -/

theorem ofBits_eight : Ideal.ofBits .f32 0x41000000#32 = ((8 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_inv256 : Ideal.ofBits .f32 0x3B800000#32 = ((1 / 256 : ℝ) : EReal) := by
  simp [Ideal.ofBits, Ideal.ieee, -EReal.coe_mul]; norm_num

/-- The starting value of a maximum is the least extended real. -/
theorem ofBits_negInf : Ideal.ofBits .f32 0xFF800000#32 = (⊥ : EReal) := by simp [Ideal.ofBits, Ideal.ieee]
/-- The zero of the 8-bit format. -/
theorem ofBits_zero8 : Ideal.ofBits .fp8e4m3 0x00#8 = (0 : EReal) := by simp [Ideal.ofBits, Ideal.e4m3fn]

/-! ### The greatest score -/

/-- The greatest score is an upper bound. -/
theorem le_top {n : ℕ} (S : Fin n → EReal) (j : Fin n) : S j ≤ top S :=
  (Finset.fold_max_le (b := ⊥) (f := S) (s := Finset.univ) (c := top S)).mp le_rfl |>.2 j (Finset.mem_univ j)

/-- It is the least one. -/
theorem top_le {n : ℕ} {S : Fin n → EReal} {b : EReal} (h : ∀ j, S j ≤ b) : top S ≤ b :=
  (Finset.fold_max_le (b := ⊥) (f := S) (s := Finset.univ) (c := b)).mpr ⟨bot_le, fun j _ => h j⟩

/-- It is one of the scores. -/
theorem exists_eq_top {n : ℕ} (hn : 0 < n) (S : Fin n → EReal) : ∃ j, S j = top S := by
  haveI : Nonempty (Fin n) := ⟨⟨0, hn⟩⟩
  obtain ⟨j, hj⟩ := Finite.exists_max S
  exact ⟨j, le_antisymm (le_top S j) (top_le hj)⟩

/-- Scaling by a factor that is not negative commutes with taking the greatest score. -/
theorem top_mul {n : ℕ} (hn : 0 < n) (S : Fin n → EReal) {c : EReal} (hc : 0 ≤ c) : top (fun j => S j * c) = top S * c := by
  refine le_antisymm (top_le fun j => mul_le_mul_of_nonneg_right (le_top S j) hc) ?_
  obtain ⟨j, hj⟩ := exists_eq_top hn S
  rw [← hj]; exact le_top (fun j => S j * c) j

/-! ### The weights -/

theorem log2_pos : (0 : ℝ) < (Real.log 2)⁻¹ := inv_pos.mpr (Real.log_pos one_lt_two)

/-- Two to the power `(a - b) / log 2 + 8` is 256 times `e` to the power `a - b`, at every pair of extended reals. -/
theorem exp2_shift (a b : EReal) : Ideal.exp2 (a * log2e - (b * log2e - ((8 : ℝ) : EReal)))
    = Ideal.exp (a - b) * ((256 : ℝ) : EReal) := by
  have hL := log2_pos
  have h256 : (0 : ℝ) < 256 := by norm_num
  unfold log2e
  induction a with
  | bot =>
    rw [EReal.bot_mul_coe_of_pos hL, EReal.bot_sub, EReal.bot_sub]; simp
  | top =>
    rw [EReal.top_mul_coe_of_pos hL]
    induction b with
    | bot =>
      rw [EReal.bot_mul_coe_of_pos hL, EReal.bot_sub, EReal.top_sub_bot, Ideal.exp2_top, Ideal.exp_top, EReal.top_mul_coe_of_pos h256]
    | top =>
      rw [EReal.top_mul_coe_of_pos hL, EReal.top_sub_coe, EReal.sub_top]; simp
    | coe b =>
      rw [← EReal.coe_mul, ← EReal.coe_sub, EReal.top_sub_coe, EReal.top_sub_coe, Ideal.exp2_top, Ideal.exp_top, EReal.top_mul_coe_of_pos h256]
  | coe a =>
    induction b with
    | bot =>
      rw [EReal.bot_mul_coe_of_pos hL, EReal.bot_sub, ← EReal.coe_mul, EReal.coe_sub_bot, EReal.coe_sub_bot, Ideal.exp2_top, Ideal.exp_top, EReal.top_mul_coe_of_pos h256]
    | top =>
      rw [EReal.top_mul_coe_of_pos hL, EReal.top_sub_coe, EReal.sub_top, EReal.sub_top]; simp
    | coe b =>
      rw [← EReal.coe_mul, ← EReal.coe_mul, ← EReal.coe_sub, ← EReal.coe_sub, ← EReal.coe_sub, Ideal.exp2_coe, Ideal.exp_coe, ← EReal.coe_mul]
      congr 1
      have h2 : Real.log 2 ≠ 0 := (Real.log_pos one_lt_two).ne'
      show (2 : ℝ) ^ (a * (Real.log 2)⁻¹ - (b * (Real.log 2)⁻¹ - 8)) = _
      rw [Real.rpow_def_of_pos two_pos, show Real.log 2 * (a * (Real.log 2)⁻¹ - (b * (Real.log 2)⁻¹ - 8)) = (a - b) + 8 * Real.log 2 by
        field_simp; ring, Real.exp_add]
      congr 1
      rw [show (8 : ℝ) * Real.log 2 = ((8 : ℕ) : ℝ) * Real.log 2 by norm_num, ← Real.log_pow, Real.exp_log (by positivity)]; norm_num

/-- The exponential is never negative. -/
theorem exp_nonneg (x : EReal) : 0 ≤ Ideal.exp x := by
  induction x with
  | bot => simp
  | top => simp
  | coe r => rw [Ideal.exp_coe]; exact EReal.coe_nonneg.mpr (Real.exp_pos r).le

/-- The kernel's weight is 256 times the reference's. -/
theorem weight_eq {n : ℕ} (hn : 0 < n) (S : Fin n → EReal) {c : EReal} (hc : 0 ≤ c) (s : EReal) :
    weight (top S * (c * log2e) - Ideal.ofBits .f32 0x41000000#32) (c * log2e) s
      = Ideal.exp (s * c - top fun j => S j * c) * Ideal.ofBits .f32 0x43800000#32 := by
  rw [top_mul hn S hc, ofBits_256, ← exp2_shift, weight, ofBits_eight, mul_assoc, mul_assoc]

/-- A sum of terms that are not negative, each scaled by a real number, is the sum scaled by it. -/
theorem sum_mul_of_nonneg {ι : Type} (s : Finset ι) (f : ι → EReal) (hf : ∀ j, 0 ≤ f j) (r : EReal) (hr : 0 ≤ r) :
    ∑ j ∈ s, f j * r = (∑ j ∈ s, f j) * r := by
  classical
  induction s using Finset.induction_on with
  | empty => simp
  | insert a s ha ih =>
    rw [Finset.sum_insert ha, Finset.sum_insert ha, ih,
      EReal.right_distrib_of_nonneg (hf a) (Finset.sum_nonneg fun j _ => hf j)]

/-- THE EQUATION: the kernel's output element is the reference's, where the combined scale is not negative. -/
theorem kernelRow_eq_referenceRow {n : ℕ} (hn : 0 < n) (S : Fin n → EReal) {c : EReal} (hc : 0 ≤ c) (osc : EReal) (v : Fin n → EReal) :
    kernelRow S c osc v = referenceRow S c osc v := by
  unfold kernelRow referenceRow
  simp only [weight_eq hn S hc]
  congr 1
  rw [sum_mul_of_nonneg _ _ (fun j => exp_nonneg _) _ (by rw [ofBits_256]; exact EReal.coe_nonneg.mpr (by norm_num)), mul_assoc,
    ofBits_256, ofBits_inv256, ← EReal.coe_mul]
  norm_num

end Cert.Attention

end
-- ==== Proof.Tile.lean ====
module

public import proofs.«01_k».proof.Proof.Trip
public import proofs.«01_k».proof.Proof.Row
public import Idealize.ShloMosaic.Lib.Pipeline.ValueKit
public import Idealize.ShloMosaic.Lib.Pointwise

/-! # One tile, read at an index

The vectors of a trip over the extended reals, entry by entry. -/

@[expose] public section

set_option maxRecDepth 16384

noncomputable section

namespace Cert.KernelIdeal.Trip

open Cert.KernelIdeal.Gen Cert.Attention
open Idealize.ShloMosaic Idealize.ShloMosaic.TcCoe

/-- The named constant is the logarithm to base two of `e`. -/
theorem named_log2e : (Named.named κ "log2e" 0x3FB8AA3B#32 : Ideal .f32) = log2e := by
  simp [Named.named, κ]

/-- A weight is the exponential of the scaled score above the row. -/
theorem weights_apply (c2 : Ideal .f32) (m2 : Vec Ideal S1x256 .f32) (s : Vec Ideal S256x256 .f32) (j q : Fin 256) :
    weights c2 m2 s (ix2 j q) = Ideal.exp2 (s (ix2 j q) * c2 - m2 (ix2 0 q)) := by
  pointwise [weights]
  rfl

/-- The running sum in row `r` adds the weights of the keys `32 g + r` of every chunk. -/
theorem sums_apply (e : ℕ → FVec Ideal S256x256 .f32) (n : ℕ) (r : Fin 32) (q : Fin 256) :
    sums e n (ix2 r q) = ∑ t ∈ Finset.range n, ∑ g : Fin 8, e t (ix2 ⟨32 * g.val + r.val, by omega⟩ q) := by
  induction n with
  | zero => pointwise [sums]; simp
  | succ n ih =>
    rw [Finset.sum_range_succ, ← ih]
    pointwise [sums]
    simp only [Nat.mul_comm]

/-- The running product of value `d` and query `q` adds the values times the cut weights of every chunk. -/
theorem prods_apply (v : ℕ → Vec Ideal S1x128x256 .fp8e4m3) (e : ℕ → FVec Ideal S256x256 .f32) (n : ℕ) (d : Fin 128) (q : Fin 256) :
    prods v e n (ix2 d q) = ∑ t ∈ Finset.range n, ∑ j : Fin 256, v t (ix3 0 d j) * clip (e t (ix2 j q)) := by
  induction n with
  | zero => pointwise [prods]; simp
  | succ n ih =>
    rw [Finset.sum_range_succ, ← ih]
    pointwise [prods, cut]
    rfl

/-- A raw score is the product of its key and its query. -/
theorem scores_apply (q : FVec Ideal S256x128 .fp8e4m3) (k : Vec Ideal S1x1024x128 .fp8e4m3) (j : Fin 1024) (r : Fin 256) :
    scores q k (ix2 j r) = ∑ d : Fin 128, k (ix3 0 j d) * q (ix2 r d) := by
  pointwise [scores]

/-- The output tile. -/
theorem outTile_apply (o : FVec Ideal S128x256 .f32) (l : FVec Ideal S32x256 .f32) (osc : Ideal .f32) (q : Fin 256) (d : Fin 128) :
    outTile o l osc (ix3 0 q d) = Ideal.div (o (ix2 d q) * osc) ((∑ r : Fin 32, l (ix2 r q)) * Ideal.ofBits .f32 0x3B800000#32) := by
  pointwise [outTile]

/-- The running maximum in row `r`. -/
theorem maxs_apply (s : ℕ → FVec Ideal S1024x256 .f32) (n : ℕ) (r : Fin 32) (q : Fin 256) :
    maxs s n (ix2 r q) = (Finset.range n).sup fun t => Finset.univ.sup fun g : Fin 32 => s t (ix2 ⟨32 * g.val + r.val, by omega⟩ q) := by
  induction n with
  | zero => pointwise [maxs]; simp [ofBits_negInf]
  | succ n ih =>
    pointwise [maxs]
    rw [ih, ofBits_negInf, Finset.range_add_one, Finset.sup_insert, max_comm]
    simp only [Nat.mul_comm]
    rfl

/-- The row of scaled maxima. -/
theorem maxRow_apply (mx : FVec Ideal S32x256 .f32) (c2 : Ideal .f32) (r : Fin 8) (q : Fin 256) :
    maxRow mx c2 (ix2 r q) = (Finset.univ.sup fun r : Fin 32 => mx (ix2 r q)) * (c2 * log2e) - Ideal.ofBits .f32 0x41000000#32 := by
  pointwise [maxRow, k0_pay3, k0_pay5, k0_pay111]
  rw [ofBits_negInf, named_log2e]
  rfl

/-! ### A whole tile

Every key is `256 t + j` for a chunk `t` and a place `j` in it, and `1024 t + j` for the larger chunks. -/

/-- Key `j` of the small chunk `n`. -/
abbrev small (n : ℕ) (j : Fin 256) : Fin 8192 := ⟨256 * (n % 32) + j.val, by omega⟩
/-- Key `j` of the large chunk `n`. -/
abbrev large (n : ℕ) (j : Fin 1024) : Fin 8192 := ⟨1024 * (n % 8) + j.val, by omega⟩

/-- The 32 rows of sums add up to the sum over all keys. -/
theorem sums_total (e : ℕ → FVec Ideal S256x256 .f32) (q : Fin 256) (E : Fin 8192 → EReal)
    (he : ∀ n j, e n (ix2 j q) = E (small n j)) : ∑ r : Fin 32, sums e 32 (ix2 r q) = ∑ j, E j := by
  rw [Fin.sum_univ_tiles 32 256 rfl E]
  simp only [sums_apply, he, Finset.sum_range]
  rw [Finset.sum_comm]
  refine Finset.sum_congr rfl fun t _ => ?_
  rw [Fin.sum_univ_tiles 8 32 rfl, Finset.sum_comm]
  refine Finset.sum_congr rfl fun g _ => Finset.sum_congr rfl fun r _ => ?_
  congr 1; ext; simp only; omega

/-- The products add up to the sum over all keys. -/
theorem prods_total (v : ℕ → Vec Ideal S1x128x256 .fp8e4m3) (e : ℕ → FVec Ideal S256x256 .f32) (d : Fin 128) (q : Fin 256)
    (V E : Fin 8192 → EReal) (hv : ∀ n j, v n (ix3 0 d j) = V (small n j)) (he : ∀ n j, e n (ix2 j q) = E (small n j)) :
    prods v e 32 (ix2 d q) = ∑ j, V j * clip (E j) := by
  rw [Fin.sum_univ_tiles 32 256 rfl (fun j => V j * clip (E j)), prods_apply, Finset.sum_range]
  refine Finset.sum_congr rfl fun t _ => Finset.sum_congr rfl fun j _ => ?_
  have h : small t.val j = ⟨t.val * 256 + j.val, by omega⟩ := by ext; simp only; omega
  rw [hv, he, h]

/-- The 32 rows of maxima have the maximum over all keys. -/
theorem maxs_total (s : ℕ → FVec Ideal S1024x256 .f32) (q : Fin 256) (S : Fin 8192 → EReal)
    (hs : ∀ n j, s n (ix2 j q) = S (large n j)) : (Finset.univ.sup fun r : Fin 32 => maxs s 8 (ix2 r q)) = top S := by
  refine le_antisymm (Finset.sup_le fun r _ => ?_) (top_le fun j => ?_)
  · rw [maxs_apply]
    refine Finset.sup_le fun t _ => Finset.sup_le fun g _ => ?_
    rw [hs]; exact le_top S _
  · have h : S j = s (j.val / 1024) (ix2 ⟨32 * (j.val / 32 % 32) + j.val % 32, by omega⟩ q) := by
      rw [hs]; congr 1; ext; simp only; omega
    rw [h]
    refine le_trans ?_ (Finset.le_sup (f := fun r : Fin 32 => maxs s 8 (ix2 r q)) (Finset.mem_univ ⟨j.val % 32, by omega⟩))
    simp only [maxs_apply]
    refine le_trans ?_ (Finset.le_sup (f := fun t => Finset.univ.sup fun g : Fin 32 => s t (ix2 ⟨32 * g.val + j.val % 32, by omega⟩ q))
      (Finset.mem_range.2 (by omega : j.val / 1024 < 8)))
    exact Finset.le_sup (f := fun g : Fin 32 => s (j.val / 1024) (ix2 ⟨32 * g.val + j.val % 32, by omega⟩ q)) (Finset.mem_univ ⟨j.val / 32 % 32, by omega⟩)

/-- The output tile at a query and a value column is one row of the attention. -/
theorem outTile_row (v : ℕ → Vec Ideal S1x128x256 .fp8e4m3) (e : ℕ → FVec Ideal S256x256 .f32) (osc : Ideal .f32) (q : Fin 256) (d : Fin 128)
    (V S : Fin 8192 → EReal) (c : EReal) (hv : ∀ n j, v n (ix3 0 d j) = V (small n j))
    (he : ∀ n j, e n (ix2 j q) = weight (top S * (c * log2e) - Ideal.ofBits .f32 0x41000000#32) (c * log2e) (S (small n j))) :
    outTile (prods v e 32) (sums e 32) osc (ix3 0 q d) = kernelRow S c osc V := by
  have h := prods_total v e d q V (fun j => weight (top S * (c * log2e) - Ideal.ofBits .f32 0x41000000#32) (c * log2e) (S j)) hv he
  have h' := sums_total e q (fun j => weight (top S * (c * log2e) - Ideal.ofBits .f32 0x41000000#32) (c * log2e) (S j)) he
  rw [outTile_apply, h, h']; rfl

end Cert.KernelIdeal.Trip

end
-- ==== Proof.Offsets.lean ====
module

public import proofs.«01_k».proof.Proof.Gen.KernelIdeal.Loops
import all proofs.«01_k».proof.Proof.Gen.KernelIdeal.Loops

/-! # Where a trip reads and stores

Trip `k` starts tile `min k 127` and finishes tile `k - 1`; tile `τ` is the 256 query rows from `256 (τ % 32)` of the
head `τ / 32` of the group. -/

@[expose] public section

set_option maxRecDepth 16384

noncomputable section

namespace Cert.KernelIdeal.Trip

open Cert.KernelIdeal.Gen
open Idealize.ShloMosaic Idealize.ShloMosaic.TcCoe

/-- The loop makes 129 trips. -/
theorem trips_eq : k0_t1_loop.trips = 129 := by decide +kernel

/-- Where the queries of the tile being started lie. -/
theorem off1_eq : ∀ k, k0_off1 k = ![0, 256 * (min k.val 127 % 32), 128 * (min k.val 127 / 32)] := by decide +kernel
/-- Where the output tile being finished lies. -/
theorem off5_eq : ∀ k, k0_off5 k = ![0, 256 * ((k.val - 1) % 32), 128 * ((k.val - 1) / 32)] := by decide +kernel
/-- Which scale and sign the tile being started has. -/
theorem off2_eq : ∀ i k, k0_off2 i k = ![4 * (i 1).val + min k.val 127 / 32] := by decide +kernel
/-- Which scale the tile being finished has. -/
theorem off3_eq : ∀ i k, k0_off3 i k = ![4 * (i 1).val + (k.val - 1) / 32] := by decide +kernel
/-- Which output scale the grid point has. -/
theorem off4_eq : ∀ i, k0_off4 i = ![(i 1).val] := by decide +kernel

end Cert.KernelIdeal.Trip

end
-- ==== Proof.Block.lean ====
module

public import proofs.«01_k».proof.Proof.Tile
public import proofs.«01_k».proof.Proof.Offsets
public import Idealize.ShloMosaic.Lib.WholeRead
public import Idealize.ShloMosaic.Lib.WordCmp

/-! # One block of the output

What a grid point is to leave in its block of the output, and what one trip of the loop adds to it, at the contents
`x0, …, x5` of the input blocks: the scales, the signs, the output scales, the queries, the keys and the values. -/

@[expose] public section

set_option maxRecDepth 16384

noncomputable section

namespace Cert.KernelIdeal.Trip

open Cert.KernelIdeal.Gen Cert.Attention
open Idealize.ShloMosaic Idealize.ShloMosaic.TcCoe

/-- Query head `g` of the four that share the key head `h`. -/
abbrev qhead (h : Fin 16) (g : Fin 4) : Fin 64 := ⟨4 * h.val + g.val, by omega⟩
/-- Column `d` of query head `g`. -/
abbrev qcol (g : Fin 4) (d : Fin 128) : Fin 512 := ⟨128 * g.val + d.val, by omega⟩
/-- The query head of tile `τ`. -/
abbrev tileHead (τ : ℕ) : Fin 4 := ⟨τ / 32 % 4, by omega⟩
/-- Row `q` of tile `τ`. -/
abbrev tileRow (τ : ℕ) (q : Fin 256) : Fin 8192 := ⟨256 * (τ % 32) + q.val, by omega⟩

section Values

variable (x0 : Vec Ideal S64 .f32) (x1 : Vec Ideal S64 .i32) (x2 : Vec Ideal S16 .f32) (x3 : Vec Ideal S1x8192x512 .fp8e4m3)
  (x4 : Vec Ideal S1x8192x128 .fp8e4m3) (x5 : Vec Ideal S1x128x8192 .fp8e4m3) (h : Fin 16)

/-- A query entry, negated where its head's flag is set. -/
def queryAt (g : Fin 4) (r : Fin 8192) (d : Fin 128) : EReal :=
  if x1 (ix1 (qhead h g)) ≠ 0 then 0 - x3 (ix3 0 r (qcol g d)) else x3 (ix3 0 r (qcol g d))

/-- The raw scores of a query row against all keys. -/
def rowScores (g : Fin 4) (r : Fin 8192) (j : Fin 8192) : EReal := ∑ d : Fin 128, x4 (ix3 0 j d) * queryAt x1 x3 h g r d

/-- An entry of the output block: one row of the attention. -/
def blockAt (g : Fin 4) (r : Fin 8192) (d : Fin 128) : EReal :=
  kernelRow (rowScores x1 x3 x4 h g r) (x0 (ix1 (qhead h g))) (x2 (ix1 h)) fun j => x5 (ix3 0 d j)

/-- The row a tile's weights are taken above. -/
def rowMax (g : Fin 4) (r : Fin 8192) : EReal :=
  top (rowScores x1 x3 x4 h g r) * (x0 (ix1 (qhead h g)) * log2e) - Ideal.ofBits .f32 0x41000000#32

end Values

variable (i : grid0.Coords) (arg2 : Memref sig .tc .smem S64 .f32) (harg2 : arg2.IsWhole) (arg3 : Memref sig .tc .smem S64 .i32) (harg3 : arg3.IsWhole) (arg4 : Memref sig .tc .smem S16 .f32) (harg4 : arg4.IsWhole)
  (arg5 : Memref sig .tc .vmem S1x8192x512 .fp8e4m3) (harg5 : arg5.IsWhole) (arg6 : Memref sig .tc .vmem S1x8192x128 .fp8e4m3) (harg6 : arg6.IsWhole) (arg7 : Memref sig .tc .vmem S1x128x8192 .fp8e4m3) (harg7 : arg7.IsWhole)
  (arg9 : Memref sig .tc .vmem S8192x256 .f32) (arg10 : Memref sig .tc .vmem S8x256 .f32)
  (x0 : Vec Ideal S64 .f32) (x1 : Vec Ideal S64 .i32) (x2 : Vec Ideal S16 .f32) (x3 : Vec Ideal S1x8192x512 .fp8e4m3)
  (x4 : Vec Ideal S1x8192x128 .fp8e4m3) (x5 : Vec Ideal S1x128x8192 .fp8e4m3)
  (f9 : BufTy.Contents (Elt Ideal) arg9.view.ty) (f10 : BufTy.Contents (Elt Ideal) arg10.view.ty)
  (k : Fin k0_t1_loop.trips)

theorem lt_trips : k.val < 129 := trips_eq ▸ k.isLt

/-- A trip's query tile from what it loads: negated where the flag is set. -/
theorem pay4_apply (v : Vec Ideal S1x256x128 .fp8e4m3) (w : BitVec 32) (q : Fin 256) (d : Fin 128) :
    k0_pay4 (F := Ideal) v w (ix2 q d) = if w ≠ 0 then 0 - v (ix3 0 q d) else v (ix3 0 q d) := by
  pointwise [k0_pay4]
  rw [ofBits_zero8]
  by_cases hw : w = 0#32 <;> simp [Scalar.select, Scalar.cmpi, WordCmp.cmpi_ne_eq, hw]

/-- The query tile a trip reads. -/
theorem query_apply (q : Fin 256) (d : Fin 128) :
    query i arg3 arg5 (harg3.unread x1) (harg5.unread x3) k (ix2 q d)
      = queryAt x1 x3 (i 1) (tileHead (min k.val 127)) (tileRow (min k.val 127) q) d := by
  have hk := lt_trips k
  have e1 : (Rect.unit (s := S1x8192x512) (k0_off1 k) S1x256x128.size (k0_off1_inb k)).toLoadRect.idx (ix3 0 q d)
      = ix3 0 (tileRow (min k.val 127) q) (qcol (tileHead (min k.val 127)) d) := by
    ext a; fin_cases a <;> simp [off1_eq] <;> omega
  have e2 : (Rect.unit (s := S64) (k0_off2 i k) S1.size (k0_off2_inb i k)).toLoadRect.idx (Shape.Idx.first (s := S1) (by decide))
      = ix1 (qhead (i 1) (tileHead (min k.val 127))) := by
    ext a; fin_cases a <;> simp [off2_eq] <;> omega
  unfold query
  rw [pay4_apply, harg3.readAt_unread, harg5.readAt_unread, e1, e2]
  rfl

/-- The scale a trip reads for the tile it starts, -/
theorem scaleA_eq : scaleA i arg2 (harg2.unread x0) k = x0 (ix1 (qhead (i 1) (tileHead (min k.val 127)))) := by
  have hk := lt_trips k
  unfold scaleA
  rw [harg2.readAt_unread]
  congr 1; ext a; fin_cases a; simp [off2_eq]; omega

/-- and for the tile it finishes. -/
theorem scaleB_eq : scaleB i arg2 (harg2.unread x0) k = x0 (ix1 (qhead (i 1) (tileHead (k.val - 1)))) := by
  have hk := lt_trips k
  unfold scaleB
  rw [harg2.readAt_unread]
  congr 1; ext a; fin_cases a; simp [off3_eq]; omega

/-- The output scale a trip reads. -/
theorem outScale_eq : outScale i arg4 (harg4.unread x2) = x2 (ix1 (i 1)) := by
  unfold outScale
  rw [harg4.readAt_unread]
  congr 1; ext a; fin_cases a; simp [off4_eq]

/-- The keys a trip reads. -/
theorem keyChunk_apply (n : ℕ) (j : Fin 1024) (d : Fin 128) : keyChunk arg6 (harg6.unread x4) n (ix3 0 j d) = x4 (ix3 0 (large n j) d) := by
  unfold keyChunk
  rw [harg6.readAt_unread]
  congr 1; ext a; fin_cases a <;> simp

/-- The values a trip reads. -/
theorem valChunk_apply (n : ℕ) (d : Fin 128) (j : Fin 256) : valChunk arg7 (harg7.unread x5) n (ix3 0 d j) = x5 (ix3 0 d (small n j)) := by
  unfold valChunk
  rw [harg7.readAt_unread]
  congr 1; ext a; fin_cases a <;> simp

/-- The scores a trip reads back. -/
theorem scoreChunk_apply (n : ℕ) (j q : Fin 256) : scoreChunk arg9 f9 n (ix2 j q) = arg9.view.read (Elt Ideal) f9 (ix2 (small n j) q) := by
  unfold scoreChunk
  rw [View.readAt_eq_ld]
  show arg9.view.read (Elt Ideal) f9 _ = _
  congr 1; ext a; fin_cases a <;> simp

/-- A trip's scores are those of the tile it starts, -/
theorem chunkScores_apply (n : ℕ) (j : Fin 1024) (q : Fin 256) :
    chunkScores i arg3 arg5 arg6 (harg3.unread x1) (harg5.unread x3) (harg6.unread x4) k n (ix2 j q)
      = rowScores x1 x3 x4 (i 1) (tileHead (min k.val 127)) (tileRow (min k.val 127) q) (large n j) := by
  unfold chunkScores rowScores
  rw [scores_apply]
  simp only [query_apply, keyChunk_apply]

/-- and so is the row it leaves to subtract. -/
theorem maxRow_tile (a : Fin 8) (q : Fin 256) :
    maxRow (maxs (chunkScores i arg3 arg5 arg6 (harg3.unread x1) (harg5.unread x3) (harg6.unread x4) k) 8) (scaleA i arg2 (harg2.unread x0) k) (ix2 a q)
      = rowMax x0 x1 x3 x4 (i 1) (tileHead (min k.val 127)) (tileRow (min k.val 127) q) := by
  rw [maxRow_apply, maxs_total _ q _ fun n j => chunkScores_apply i arg3 harg3 arg5 harg5 arg6 harg6 x1 x3 x4 k n j q, scaleA_eq]
  rfl

/-- The tile a trip finishes is the block's, when the scratch holds that tile's scores and row. -/
theorem outTile_tile
    (h9 : ∀ j q, arg9.view.read (Elt Ideal) f9 (ix2 j q) = rowScores x1 x3 x4 (i 1) (tileHead (k.val - 1)) (tileRow (k.val - 1) q) j)
    (h10 : ∀ q, arg10.view.read (Elt Ideal) f10 (ix2 0 q) = rowMax x0 x1 x3 x4 (i 1) (tileHead (k.val - 1)) (tileRow (k.val - 1) q))
    (q : Fin 256) (d : Fin 128) :
    outTile (prods (valChunk arg7 (harg7.unread x5)) (chunkWeights i arg2 arg9 arg10 (harg2.unread x0) f9 f10 k) 32)
        (sums (chunkWeights i arg2 arg9 arg10 (harg2.unread x0) f9 f10 k) 32) (outScale i arg4 (harg4.unread x2)) (ix3 0 q d)
      = blockAt x0 x1 x2 x3 x4 x5 (i 1) (tileHead (k.val - 1)) (tileRow (k.val - 1) q) d := by
  rw [outScale_eq]
  refine outTile_row _ _ _ q d _ _ _ (fun n j => valChunk_apply arg7 harg7 x5 n d j) fun n j => ?_
  have e : (Rect.unit (s := S8x256) ![0, 0] S1x256.size inb_S8x256_S1x256_0_0).toLoadRect.idx (ix2 0 q) = ix2 0 q := by
    ext a; fin_cases a <;> simp
  have hm : View.readAt (Elt Ideal) arg10.view (Rect.unit (s := S8x256) ![0, 0] S1x256.size inb_S8x256_S1x256_0_0).toLoadRect f10 (ix2 0 q)
      = rowMax x0 x1 x3 x4 (i 1) (tileHead (k.val - 1)) (tileRow (k.val - 1) q) := by
    rw [View.readAt_eq_ld]
    show arg10.view.read (Elt Ideal) f10 _ = _
    rw [e, h10]
  have hc : k0_pay5 (F := Ideal) (x0 (ix1 (qhead (i 1) (tileHead (k.val - 1))))) = x0 (ix1 (qhead (i 1) (tileHead (k.val - 1)))) * log2e := by
    pointwise [k0_pay5]; rw [named_log2e]
  unfold chunkWeights
  rw [weights_apply, hm, scoreChunk_apply, h9, scaleB_eq, hc]
  rfl

end Cert.KernelIdeal.Trip

end
-- ==== Proof.KernelIdealBody.lean ====
module

public import proofs.«01_k».proof.Proof.Gen.KernelIdeal.Loops
public import proofs.«01_k».proof.Proof.Gen.KernelIdeal.Frame

/-! # One call of the kernel body

What one grid point does to the buffers it is handed, at any values: the inputs are read and kept, the output block is left
with the pieces the loop stores (`pb_k0_t1`), written over some contents the loop found, and the two scratch buffers
are left at anything.  The loop is the same whether or not the point clears the scratch first. -/

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Clearing the scratch: the two buffers are stored whole, and whatever runs next finds them at some contents. -/
theorem clear_run (c : Dev nD) (arg9 : Memref sig .tc .vmem S8192x256 .f32) (harg9 : arg9.IsWhole) (arg10 : Memref sig .tc .vmem S8x256 .f32) (harg10 : arg10.IsWhole)
    (E : Set ℕ) (K : PUnit → sProp 𝕄) (rest : Prog (TpuEff nD τ sig (Elt F) Λ₀ .tc) PUnit)
    (f9 : BufTy.Contents (Elt F) arg9.view.ty) (f10 : BufTy.Contents (Elt F) arg10.view.ty) :
    iprop((arg9.view.loc (c : Thread nD τ) ↦[arg9.view.set]{fullShare} f9) ∗ (arg10.view.loc (c : Thread nD τ) ↦[arg10.view.set]{fullShare} f10)
        ∗ ((∃ g, arg9.view.loc (c : Thread nD τ) ↦[arg9.view.set]{fullShare} g) ∗ (∃ g, arg10.view.loc (c : Thread nD τ) ↦[arg10.view.set]{fullShare} g)
            -∗ wp frame (wpE (defs₀ (F := F)) Variants.none (c : Thread nD τ) none) E rest K))
      ⊢ wp frame (wpE (defs₀ (F := F)) Variants.none (c : Thread nD τ) none) E
          (do
            let _ ← Prog.lift (.load arg9 (Rect.unit (s := S8192x256) ![0, 0] S8192x256.size inb_S8192x256_S8192x256_0_0).toLoadRect (View.loadsAt_vmem h_S8192x256))
            Prog.lift (.store arg9 (Rect.unit (s := S8192x256) ![0, 0] S8192x256.size inb_S8192x256_S8192x256_0_0) (k0_pay1 (F := F)) Finset.univ (View.stores_vmem_bits_univ h_S8192x256 rfl) (.inl rfl))
            let _ ← Prog.lift (.load arg10 (Rect.unit (s := S8x256) ![0, 0] S8x256.size inb_S8x256_S8x256_0_0).toLoadRect (View.loadsAt_vmem h_S8x256))
            Prog.lift (.store arg10 (Rect.unit (s := S8x256) ![0, 0] S8x256.size inb_S8x256_S8x256_0_0) (k0_pay2 (F := F)) Finset.univ (View.stores_vmem_bits_univ h_S8x256 rfl) (.inl rfl))
            rest) K := by
  iintro ⟨H9, H10, Hk⟩
  sl_exec
  iapply Hk
  isplitl [H9]
  · iexists _; iexact H9
  iexists _; iexact H10

/-- What the loop leaves in the output's buffer: its pieces written over the contents `G8` it found, the scratch at `G9` and `G10`. -/
def looped (c : Dev nD) (i : grid0.Coords) (arg2 : Memref sig .tc .smem S64 .f32) (harg2 : arg2.IsWhole) (arg3 : Memref sig .tc .smem S64 .i32) (harg3 : arg3.IsWhole) (arg4 : Memref sig .tc .smem S16 .f32) (harg4 : arg4.IsWhole)
    (arg5 : Memref sig .tc .vmem S1x8192x512 .fp8e4m3) (harg5 : arg5.IsWhole) (arg6 : Memref sig .tc .vmem S1x8192x128 .fp8e4m3) (harg6 : arg6.IsWhole) (arg7 : Memref sig .tc .vmem S1x128x8192 .fp8e4m3) (harg7 : arg7.IsWhole)
    (arg8 : Memref sig .tc .vmem S1x8192x512 .bf16) (harg8 : arg8.IsWhole) (arg9 : Memref sig .tc .vmem S8192x256 .f32) (harg9 : arg9.IsWhole) (arg10 : Memref sig .tc .vmem S8x256 .f32) (harg10 : arg10.IsWhole)
    (x0 : Vec F S64 .f32) (x1 : Vec F S64 .i32) (x2 : Vec F S16 .f32) (x3 : Vec F S1x8192x512 .fp8e4m3) (x4 : Vec F S1x8192x128 .fp8e4m3) (x5 : Vec F S1x128x8192 .fp8e4m3)
    (G8 : BufTy.Contents (Elt F) arg8.view.ty) (G9 : BufTy.Contents (Elt F) arg9.view.ty) (G10 : BufTy.Contents (Elt F) arg10.view.ty) :
    BufTy.Contents (Elt F) arg8.view.ty :=
  arg8.view.writes (Elt F) G8 (pb_k0_t1 (F := F) Variants.none c none i arg2 harg2 arg3 harg3 arg4 harg4 arg5 harg5 arg6 harg6 arg7 harg7 arg8 harg8 arg9 harg9 arg10 harg10 (BitVec.ofNat 32 (i 1).val)
    (harg2.unread x0) (harg3.unread x1) (harg4.unread x2) (harg5.unread x3) (harg6.unread x4) (harg7.unread x5) G8 G9 G10 k0_t1_loop.trips).1

/-- The loop, from any contents of the output's buffer and of the scratch. -/
theorem loop_run (c : Dev nD) (i : grid0.Coords) (arg2 : Memref sig .tc .smem S64 .f32) (harg2 : arg2.IsWhole) (arg3 : Memref sig .tc .smem S64 .i32) (harg3 : arg3.IsWhole) (arg4 : Memref sig .tc .smem S16 .f32) (harg4 : arg4.IsWhole)
    (arg5 : Memref sig .tc .vmem S1x8192x512 .fp8e4m3) (harg5 : arg5.IsWhole) (arg6 : Memref sig .tc .vmem S1x8192x128 .fp8e4m3) (harg6 : arg6.IsWhole) (arg7 : Memref sig .tc .vmem S1x128x8192 .fp8e4m3) (harg7 : arg7.IsWhole)
    (arg8 : Memref sig .tc .vmem S1x8192x512 .bf16) (harg8 : arg8.IsWhole) (arg9 : Memref sig .tc .vmem S8192x256 .f32) (harg9 : arg9.IsWhole) (arg10 : Memref sig .tc .vmem S8x256 .f32) (harg10 : arg10.IsWhole)
    (x0 : Vec F S64 .f32) (x1 : Vec F S64 .i32) (x2 : Vec F S16 .f32) (x3 : Vec F S1x8192x512 .fp8e4m3) (x4 : Vec F S1x8192x128 .fp8e4m3) (x5 : Vec F S1x128x8192 .fp8e4m3)
    (f8 : BufTy.Contents (Elt F) arg8.view.ty) (f9 : BufTy.Contents (Elt F) arg9.view.ty) (f10 : BufTy.Contents (Elt F) arg10.view.ty)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ G8 G9 G10, arg8.view.loc (c : Thread nD τ) ↦[arg8.view.set]{fullShare} looped c i arg2 harg2 arg3 harg3 arg4 harg4 arg5 harg5 arg6 harg6 arg7 harg7 arg8 harg8 arg9 harg9 arg10 harg10 x0 x1 x2 x3 x4 x5 G8 G9 G10) ∗ (∃ d, owns (c : Thread nD τ) arg9 fullShare d) ∗ (∃ d, owns (c : Thread nD τ) arg10 fullShare d)) -∗ K ⟨⟩))
      ⊢ wp frame (wpE (defs₀ (F := F)) Variants.none (c : Thread nD τ) none) E
          (do
            Scf.Loop.for k0_t1_loop k0_t1_ok ⟨⟩ (k0_t1_body i arg2 harg2 arg3 harg3 arg4 harg4 arg5 harg5 arg6 harg6 arg7 harg7 arg8 harg8 arg9 harg9 arg10 harg10 (BitVec.ofNat 32 (i 1).val))
            pure ⟨⟩) K := by
  unfold owns looped
  iintro ⟨⟨%g0, %hg0, H0⟩, ⟨%g1, %hg1, H1⟩, ⟨%g2, %hg2, H2⟩, ⟨%g3, %hg3, H3⟩, ⟨%g4, %hg4, H4⟩, ⟨%g5, %hg5, H5⟩, H6, HS0, HS1, Hk⟩
  obtain rfl := harg2.eq_unread hg0; obtain rfl := harg3.eq_unread hg1; obtain rfl := harg4.eq_unread hg2
  obtain rfl := harg5.eq_unread hg3; obtain rfl := harg6.eq_unread hg4; obtain rfl := harg7.eq_unread hg5
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists f8, f9, f10; iexact H6
  isplitl [HS0]
  · iexists _, _; isplitr; swap; · iexact HS0
    ipureintro; rfl
  iexists _, _; isplitr; swap; · iexact HS1
  ipureintro; rfl

/-- THE BODY: from the inputs' blocks, and the output's buffer and the scratch at anything. -/
theorem body_run (c : Dev nD) (i : grid0.Coords) (arg2 : Memref sig .tc .smem S64 .f32) (harg2 : arg2.IsWhole) (arg3 : Memref sig .tc .smem S64 .i32) (harg3 : arg3.IsWhole) (arg4 : Memref sig .tc .smem S16 .f32) (harg4 : arg4.IsWhole)
    (arg5 : Memref sig .tc .vmem S1x8192x512 .fp8e4m3) (harg5 : arg5.IsWhole) (arg6 : Memref sig .tc .vmem S1x8192x128 .fp8e4m3) (harg6 : arg6.IsWhole) (arg7 : Memref sig .tc .vmem S1x128x8192 .fp8e4m3) (harg7 : arg7.IsWhole)
    (arg8 : Memref sig .tc .vmem S1x8192x512 .bf16) (harg8 : arg8.IsWhole) (arg9 : Memref sig .tc .vmem S8192x256 .f32) (harg9 : arg9.IsWhole) (arg10 : Memref sig .tc .vmem S8x256 .f32) (harg10 : arg10.IsWhole)
    (x0 : Vec F S64 .f32) (x1 : Vec F S64 .i32) (x2 : Vec F S16 .f32) (x3 : Vec F S1x8192x512 .fp8e4m3) (x4 : Vec F S1x8192x128 .fp8e4m3) (x5 : Vec F S1x128x8192 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ G8 G9 G10, arg8.view.loc (c : Thread nD τ) ↦[arg8.view.set]{fullShare} looped c i arg2 harg2 arg3 harg3 arg4 harg4 arg5 harg5 arg6 harg6 arg7 harg7 arg8 harg8 arg9 harg9 arg10 harg10 x0 x1 x2 x3 x4 x5 G8 G9 G10) ∗ (∃ d, owns (c : Thread nD τ) arg9 fullShare d) ∗ (∃ d, owns (c : Thread nD τ) arg10 fullShare d)) -∗ K ⟨⟩))
      ⊢ wp frame (wpE (defs₀ (F := F)) Variants.none (c : Thread nD τ) none) E (cc0_fp8_gqa_attention i arg2 harg2 arg3 harg3 arg4 harg4 arg5 harg5 arg6 harg6 arg7 harg7 arg8 harg8 arg9 harg9 arg10 harg10) K := by
  rw [cc0_fp8_gqa_attention_eq_skeleton]; unfold cc0_fp8_gqa_attention_skel
  dsimp only
  iintro ⟨H0, H1, H2, H3, H4, H5, ⟨%d8, H6⟩, ⟨%d9, HS0⟩, ⟨%d10, HS1⟩, Hk⟩
  unfold owns
  icases H6 with ⟨%f8, -, H6⟩
  icases HS0 with ⟨%f9, -, HS0⟩
  icases HS1 with ⟨%f10, -, HS1⟩
  split
  · iapply (clear_run c arg9 harg9 arg10 harg10 E K _ f9 f10)
    isplitl [HS0]; · iexact HS0
    isplitl [HS1]; · iexact HS1
    iintro ⟨⟨%g9, HS0⟩, ⟨%g10, HS1⟩⟩
    iapply (loop_run c i arg2 harg2 arg3 harg3 arg4 harg4 arg5 harg5 arg6 harg6 arg7 harg7 arg8 harg8 arg9 harg9 arg10 harg10 x0 x1 x2 x3 x4 x5 f8 g9 g10 E K)
    unfold owns
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iexact Hk
  · iapply (loop_run c i arg2 harg2 arg3 harg3 arg4 harg4 arg5 harg5 arg6 harg6 arg7 harg7 arg8 harg8 arg9 harg9 arg10 harg10 x0 x1 x2 x3 x4 x5 f8 f9 f10 E K)
    unfold owns
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iexact Hk

end Cert.KernelIdeal.Body

end
-- ==== Proof.Loop.lean ====
module

public import proofs.«01_k».proof.Proof.Block
public import proofs.«01_k».proof.Proof.KernelIdealBody
public import Idealize.ShloMosaic.Lib.WritesUnit

/-! # The loop

The trips one after another: before trip `k` the scratch holds the scores and the row of tile `k - 1`, and the output
block holds every tile before it.  After the last trip the output block is whole. -/

@[expose] public section

set_option maxRecDepth 16384

noncomputable section

namespace Cert.KernelIdeal.Trip

open Cert.KernelIdeal.Gen Cert.Attention
open Idealize.ShloMosaic Idealize.ShloMosaic.TcCoe

variable (c : Dev nD) (i : grid0.Coords) (arg2 : Memref sig .tc .smem S64 .f32) (harg2 : arg2.IsWhole) (arg3 : Memref sig .tc .smem S64 .i32) (harg3 : arg3.IsWhole) (arg4 : Memref sig .tc .smem S16 .f32) (harg4 : arg4.IsWhole)
  (arg5 : Memref sig .tc .vmem S1x8192x512 .fp8e4m3) (harg5 : arg5.IsWhole) (arg6 : Memref sig .tc .vmem S1x8192x128 .fp8e4m3) (harg6 : arg6.IsWhole) (arg7 : Memref sig .tc .vmem S1x128x8192 .fp8e4m3) (harg7 : arg7.IsWhole)
  (arg8 : Memref sig .tc .vmem S1x8192x512 .bf16) (harg8 : arg8.IsWhole) (arg9 : Memref sig .tc .vmem S8192x256 .f32) (harg9 : arg9.IsWhole) (arg10 : Memref sig .tc .vmem S8x256 .f32) (harg10 : arg10.IsWhole)
  (arg1 : BitVec 32)
  (x0 : Vec Ideal S64 .f32) (x1 : Vec Ideal S64 .i32) (x2 : Vec Ideal S16 .f32) (x3 : Vec Ideal S1x8192x512 .fp8e4m3)
  (x4 : Vec Ideal S1x8192x128 .fp8e4m3) (x5 : Vec Ideal S1x128x8192 .fp8e4m3)
  (G8 : BufTy.Contents (Elt Ideal) arg8.view.ty) (G9 : BufTy.Contents (Elt Ideal) arg9.view.ty) (G10 : BufTy.Contents (Elt Ideal) arg10.view.ty)

/-- What trip `k` stores at the contents it finds. -/
abbrev stored (k : Fin k0_t1_loop.trips) (f8 : BufTy.Contents (Elt Ideal) arg8.view.ty) (f9 : BufTy.Contents (Elt Ideal) arg9.view.ty) (f10 : BufTy.Contents (Elt Ideal) arg10.view.ty) :=
  tripL_k0_t1 (F := Ideal) Variants.none c none i arg2 harg2 arg3 harg3 arg4 harg4 arg5 harg5 arg6 harg6 arg7 harg7 arg8 harg8 arg9 harg9 arg10 harg10 arg1
    (harg2.unread x0) (harg3.unread x1) (harg4.unread x2) (harg5.unread x3) (harg6.unread x4) (harg7.unread x5) k f8 f9 f10

/-- What the trips before `k` stored. -/
abbrev before (k : ℕ) :=
  pb_k0_t1 (F := Ideal) Variants.none c none i arg2 harg2 arg3 harg3 arg4 harg4 arg5 harg5 arg6 harg6 arg7 harg7 arg8 harg8 arg9 harg9 arg10 harg10 arg1
    (harg2.unread x0) (harg3.unread x1) (harg4.unread x2) (harg5.unread x3) (harg6.unread x4) (harg7.unread x5) G8 G9 G10 k

/-- The scores of one tile, as the scratch holds them. -/
def tileScores (h : Fin 16) (τ : ℕ) : Vec Ideal S8192x256 .f32 := fun y => rowScores x1 x3 x4 h (tileHead τ) (tileRow τ (y 1)) (y 0)

section Step

variable (k : Fin k0_t1_loop.trips) (f8 : BufTy.Contents (Elt Ideal) arg8.view.ty) (f9 : BufTy.Contents (Elt Ideal) arg9.view.ty) (f10 : BufTy.Contents (Elt Ideal) arg10.view.ty)

/-- Each piece of scores is that part of the tile's. -/
theorem piece_reads (n : ℕ) (x : S1024x256.Idx) :
    (piece i arg3 arg5 arg6 (harg3.unread x1) (harg5.unread x3) (harg6.unread x4) k n).2 x
      = tileScores x1 x3 x4 (i 1) (min k.val 127) ((piece i arg3 arg5 arg6 (harg3.unread x1) (harg5.unread x3) (harg6.unread x4) k n).1.emb x) := by
  obtain ⟨j, q, rfl⟩ : ∃ (j : Fin 1024) (q : Fin 256), x = ix2 j q := ⟨x 0, x 1, eq_ix2 x⟩
  have e : (piece i arg3 arg5 arg6 (harg3.unread x1) (harg5.unread x3) (harg6.unread x4) k n).1.emb (ix2 j q) = ix2 (large n j) q := by
    show (Rect.unit (s := S8192x256) ![1024 * (n % 8), 0] S1024x256.size (inb_stored n)).toLoadRect.idx (ix2 j q) = _
    ext a; fin_cases a <;> simp
  rw [e]
  show shapeCast S1024x256 (chunkScores i arg3 arg5 arg6 (harg3.unread x1) (harg5.unread x3) (harg6.unread x4) k n) shapeCasts_S1024x256_S1024x256 (ix2 j q) = _
  rw [shapeCast_id]
  exact chunkScores_apply i arg3 harg3 arg5 harg5 arg6 harg6 x1 x3 x4 k n j q

/-- After a trip the first scratch buffer holds the scores of the tile it started, -/
theorem read_scores (L : List (View.Piece (Elt Ideal) S8192x256 .f32)) (j : Fin 8192) (q : Fin 256) :
    arg9.view.read (Elt Ideal) (arg9.view.writes (Elt Ideal) G9 ((stored c i arg2 harg2 arg3 harg3 arg4 harg4 arg5 harg5 arg6 harg6 arg7 harg7 arg8 harg8 arg9 harg9 arg10 harg10 arg1 x0 x1 x2 x3 x4 x5 k f8 f9 f10).2.1 ++ L)) (ix2 j q)
      = rowScores x1 x3 x4 (i 1) (tileHead (min k.val 127)) (tileRow (min k.val 127) q) j := by
  rw [trip_scores, View.writes_append]
  refine View.read_writes_apply_of_pieces (Val := Elt Ideal) arg9.view _ (tileScores x1 x3 x4 (i 1) (min k.val 127)) _ ?_ (ix2 j q) ?_
  · intro p hp' x
    have hm : ∃ n, p = piece i arg3 arg5 arg6 (harg3.unread x1) (harg5.unread x3) (harg6.unread x4) k n := by
      simp only [List.mem_cons, List.not_mem_nil, or_false] at hp'
      rcases hp' with h | h | h | h | h | h | h | h <;> exact ⟨_, h⟩
    obtain ⟨n, rfl⟩ := hm
    exact piece_reads i arg3 harg3 arg5 harg5 arg6 harg6 x1 x3 x4 k n x
  · have hm : ∀ n < 8, piece i arg3 arg5 arg6 (harg3.unread x1) (harg5.unread x3) (harg6.unread x4) k n ∈
        [piece i arg3 arg5 arg6 (harg3.unread x1) (harg5.unread x3) (harg6.unread x4) k 7, piece i arg3 arg5 arg6 (harg3.unread x1) (harg5.unread x3) (harg6.unread x4) k 6,
          piece i arg3 arg5 arg6 (harg3.unread x1) (harg5.unread x3) (harg6.unread x4) k 5, piece i arg3 arg5 arg6 (harg3.unread x1) (harg5.unread x3) (harg6.unread x4) k 4,
          piece i arg3 arg5 arg6 (harg3.unread x1) (harg5.unread x3) (harg6.unread x4) k 3, piece i arg3 arg5 arg6 (harg3.unread x1) (harg5.unread x3) (harg6.unread x4) k 2,
          piece i arg3 arg5 arg6 (harg3.unread x1) (harg5.unread x3) (harg6.unread x4) k 1, piece i arg3 arg5 arg6 (harg3.unread x1) (harg5.unread x3) (harg6.unread x4) k 0] := by
      intro n hn
      interval_cases n <;> simp only [List.mem_cons, true_or, or_true]
    refine ⟨_, hm (j.val / 1024) (by omega), ?_⟩
    show ix2 j q ∈ (Rect.unit (s := S8192x256) ![1024 * (j.val / 1024 % 8), 0] S1024x256.size (inb_stored (j.val / 1024))).set
    rw [Rect.mem_set_unit]
    intro a; fin_cases a <;> simp <;> omega

/-- and the second holds that tile's row. -/
theorem read_row (L : List (View.Piece (Elt Ideal) S8x256 .f32)) (a : Fin 8) (q : Fin 256) :
    arg10.view.read (Elt Ideal) (arg10.view.writes (Elt Ideal) G10 ((stored c i arg2 harg2 arg3 harg3 arg4 harg4 arg5 harg5 arg6 harg6 arg7 harg7 arg8 harg8 arg9 harg9 arg10 harg10 arg1 x0 x1 x2 x3 x4 x5 k f8 f9 f10).2.2 ++ L)) (ix2 a q)
      = rowMax x0 x1 x3 x4 (i 1) (tileHead (min k.val 127)) (tileRow (min k.val 127) q) := by
  rw [trip_max, List.singleton_append]
  refine (View.read_writes_cons_unit_of_mem arg10.view G10 _ _ _ (ix2 a q) (ix2 a q) rfl (by intro b; fin_cases b <;> simp)).trans ?_
  exact maxRow_tile i arg2 harg2 arg3 harg3 arg5 harg5 arg6 harg6 x0 x1 x3 x4 k a q

/-- The output block then holds the tile the trip finished, when the scratch held that tile's scores and row, -/
theorem read_tile (L : List (View.Piece (Elt Ideal) S1x8192x512 .bf16))
    (h9 : ∀ j q, arg9.view.read (Elt Ideal) f9 (ix2 j q) = rowScores x1 x3 x4 (i 1) (tileHead (k.val - 1)) (tileRow (k.val - 1) q) j)
    (h10 : ∀ q, arg10.view.read (Elt Ideal) f10 (ix2 0 q) = rowMax x0 x1 x3 x4 (i 1) (tileHead (k.val - 1)) (tileRow (k.val - 1) q))
    (q : Fin 256) (d : Fin 128) :
    arg8.view.read (Elt Ideal) (arg8.view.writes (Elt Ideal) G8 ((stored c i arg2 harg2 arg3 harg3 arg4 harg4 arg5 harg5 arg6 harg6 arg7 harg7 arg8 harg8 arg9 harg9 arg10 harg10 arg1 x0 x1 x2 x3 x4 x5 k f8 f9 f10).1 ++ L)) (ix3 0 (tileRow (k.val - 1) q) (qcol (tileHead (k.val - 1)) d))
      = blockAt x0 x1 x2 x3 x4 x5 (i 1) (tileHead (k.val - 1)) (tileRow (k.val - 1) q) d := by
  have hk := lt_trips k
  rw [trip_out, List.singleton_append]
  refine (View.read_writes_cons_unit_of_mem arg8.view G8 _ _ _ _ (ix3 0 q d) (off5_eq k) (by intro b; fin_cases b <;> simp <;> omega)).trans ?_
  exact outTile_tile i arg2 harg2 arg4 harg4 arg7 harg7 arg9 arg10 x0 x1 x2 x3 x4 x5 f9 f10 k h9 h10 q d

/-- and every other tile as it was. -/
theorem read_other (L : List (View.Piece (Elt Ideal) S1x8192x512 .bf16)) (τ : ℕ) (hτ : τ < 128) (hne : τ ≠ k.val - 1) (q : Fin 256) (d : Fin 128) :
    arg8.view.read (Elt Ideal) (arg8.view.writes (Elt Ideal) G8 ((stored c i arg2 harg2 arg3 harg3 arg4 harg4 arg5 harg5 arg6 harg6 arg7 harg7 arg8 harg8 arg9 harg9 arg10 harg10 arg1 x0 x1 x2 x3 x4 x5 k f8 f9 f10).1 ++ L)) (ix3 0 (tileRow τ q) (qcol (tileHead τ) d))
      = arg8.view.read (Elt Ideal) (arg8.view.writes (Elt Ideal) G8 L) (ix3 0 (tileRow τ q) (qcol (tileHead τ) d)) := by
  have hk := lt_trips k
  rw [trip_out, List.singleton_append]
  by_cases hr : τ % 32 = (k.val - 1) % 32
  · exact View.read_writes_cons_unit_of_not_mem arg8.view G8 _ _ _ _ (off5_eq k) 2 (by simp; omega)
  · exact View.read_writes_cons_unit_of_not_mem arg8.view G8 _ _ _ _ (off5_eq k) 1 (by simp; omega)

end Step

/-- THE INVARIANT of the loop. -/
theorem before_reads (k : ℕ) (hk : k ≤ 129) :
    (0 < k → (∀ j q, arg9.view.read (Elt Ideal) (arg9.view.writes (Elt Ideal) G9 (before c i arg2 harg2 arg3 harg3 arg4 harg4 arg5 harg5 arg6 harg6 arg7 harg7 arg8 harg8 arg9 harg9 arg10 harg10 arg1 x0 x1 x2 x3 x4 x5 G8 G9 G10 k).2.1) (ix2 j q)
          = rowScores x1 x3 x4 (i 1) (tileHead (min (k - 1) 127)) (tileRow (min (k - 1) 127) q) j)
        ∧ ∀ q, arg10.view.read (Elt Ideal) (arg10.view.writes (Elt Ideal) G10 (before c i arg2 harg2 arg3 harg3 arg4 harg4 arg5 harg5 arg6 harg6 arg7 harg7 arg8 harg8 arg9 harg9 arg10 harg10 arg1 x0 x1 x2 x3 x4 x5 G8 G9 G10 k).2.2) (ix2 0 q)
          = rowMax x0 x1 x3 x4 (i 1) (tileHead (min (k - 1) 127)) (tileRow (min (k - 1) 127) q))
      ∧ ∀ τ, τ + 1 < k → ∀ q d, arg8.view.read (Elt Ideal) (arg8.view.writes (Elt Ideal) G8 (before c i arg2 harg2 arg3 harg3 arg4 harg4 arg5 harg5 arg6 harg6 arg7 harg7 arg8 harg8 arg9 harg9 arg10 harg10 arg1 x0 x1 x2 x3 x4 x5 G8 G9 G10 k).1) (ix3 0 (tileRow τ q) (qcol (tileHead τ) d))
          = blockAt x0 x1 x2 x3 x4 x5 (i 1) (tileHead τ) (tileRow τ q) d := by
  induction k with
  | zero => exact ⟨fun h => absurd h (by omega), fun τ h => absurd h (by omega)⟩
  | succ k ih =>
    obtain ⟨ih1, ih2⟩ := ih (by omega)
    have hlt : k < k0_t1_loop.trips := by rw [trips_eq]; omega
    have e := pb_k0_t1_succ (F := Ideal) Variants.none c none i arg2 harg2 arg3 harg3 arg4 harg4 arg5 harg5 arg6 harg6 arg7 harg7 arg8 harg8 arg9 harg9 arg10 harg10 arg1
      (harg2.unread x0) (harg3.unread x1) (harg4.unread x2) (harg5.unread x3) (harg6.unread x4) (harg7.unread x5) G8 G9 G10 ⟨k, hlt⟩
    have e' : before c i arg2 harg2 arg3 harg3 arg4 harg4 arg5 harg5 arg6 harg6 arg7 harg7 arg8 harg8 arg9 harg9 arg10 harg10 arg1 x0 x1 x2 x3 x4 x5 G8 G9 G10 (k + 1) = _ := e
    rw [e']
    refine ⟨fun _ => ⟨fun j q => ?_, fun q => ?_⟩, fun τ hτ q d => ?_⟩
    · exact read_scores c i arg2 harg2 arg3 harg3 arg4 harg4 arg5 harg5 arg6 harg6 arg7 harg7 arg8 harg8 arg9 harg9 arg10 harg10 arg1 x0 x1 x2 x3 x4 x5 G9 ⟨k, hlt⟩ _ _ _ _ j q
    · exact read_row c i arg2 harg2 arg3 harg3 arg4 harg4 arg5 harg5 arg6 harg6 arg7 harg7 arg8 harg8 arg9 harg9 arg10 harg10 arg1 x0 x1 x2 x3 x4 x5 G10 ⟨k, hlt⟩ _ _ _ _ 0 q
    · by_cases hk1 : τ = k - 1
      · subst hk1
        obtain ⟨h9, h10⟩ := ih1 (by omega)
        have hm : min (k - 1) 127 = k - 1 := by omega
        rw [hm] at h9 h10
        exact read_tile c i arg2 harg2 arg3 harg3 arg4 harg4 arg5 harg5 arg6 harg6 arg7 harg7 arg8 harg8 arg9 harg9 arg10 harg10 arg1 x0 x1 x2 x3 x4 x5 G8 ⟨k, hlt⟩ _ _ _ _ h9 h10 q d
      · exact (read_other c i arg2 harg2 arg3 harg3 arg4 harg4 arg5 harg5 arg6 harg6 arg7 harg7 arg8 harg8 arg9 harg9 arg10 harg10 arg1 x0 x1 x2 x3 x4 x5 G8 ⟨k, hlt⟩ _ _ _ _ τ (by omega) hk1 q d).trans (ih2 τ (by omega) q d)

/-- What a grid point leaves in its block of the output. -/
def blockOut (h : Fin 16) : Vec Ideal S1x8192x512 .bf16 := fun y =>
  blockAt x0 x1 x2 x3 x4 x5 h ⟨(y 2).val / 128, by have := (y 2).isLt; simp at this; omega⟩ (y 1) ⟨(y 2).val % 128, by omega⟩

/-- THE BLOCK: whatever the buffers held before, after the loop the output's holds the block. -/
theorem looped_reads :
    arg8.view.read (Elt Ideal) (Body.looped (F := Ideal) c i arg2 harg2 arg3 harg3 arg4 harg4 arg5 harg5 arg6 harg6 arg7 harg7 arg8 harg8 arg9 harg9 arg10 harg10 x0 x1 x2 x3 x4 x5 G8 G9 G10)
      = blockOut x0 x1 x2 x3 x4 x5 (i 1) := by
  funext y
  idx_vars y
  obtain rfl : y0 = 0 := by omega
  have key := (before_reads c i arg2 harg2 arg3 harg3 arg4 harg4 arg5 harg5 arg6 harg6 arg7 harg7 arg8 harg8 arg9 harg9 arg10 harg10 (BitVec.ofNat 32 (i 1).val) x0 x1 x2 x3 x4 x5 G8 G9 G10 129 le_rfl).2
    (32 * (y2.val / 128) + y1.val / 256) (by omega) ⟨y1.val % 256, by omega⟩ ⟨y2.val % 128, by omega⟩
  have h1 : tileHead (32 * (y2.val / 128) + y1.val / 256) = ⟨y2.val / 128, by omega⟩ := by ext; simp only; omega
  have h2 : tileRow (32 * (y2.val / 128) + y1.val / 256) ⟨y1.val % 256, by omega⟩ = y1 := by ext; simp only; omega
  have h3 : qcol (⟨y2.val / 128, by omega⟩ : Fin 4) ⟨y2.val % 128, by omega⟩ = y2 := by ext; simp only; omega
  rw [h1, h2, h3] at key
  unfold Body.looped
  rw [trips_eq]
  exact key

end Cert.KernelIdeal.Trip

end
-- ==== Proof.KernelIdealFrame.lean ====
module

public import proofs.«01_k».proof.Proof.Loop
public import Idealize.ShloMosaic.Lib.Claim

/-! # The kernel over the extended reals: its run

At every grid point the output's buffer is left at the block of `Loop`; so the run ends with the output array made of
those blocks, and the arguments as they were. -/

@[expose] public section

set_option maxRecDepth 16384

noncomputable section

namespace Cert.KernelIdeal.Body

open Cert.KernelIdeal.Gen Cert.KernelIdeal.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The staging buffers and the scratch, by name. -/
abbrev ms0_0 (t : Fin cfg0.N) : Memref sig .tc .smem S64 .f32 := win0_0.stage (cfg0.slots t 0)
abbrev ms0_1 (t : Fin cfg0.N) : Memref sig .tc .smem S64 .i32 := win0_1.stage (cfg0.slots t 1)
abbrev ms0_2 (t : Fin cfg0.N) : Memref sig .tc .smem S16 .f32 := win0_2.stage (cfg0.slots t 2)
abbrev ms0_3 (t : Fin cfg0.N) : Memref sig .tc .vmem S1x8192x512 .fp8e4m3 := win0_3.stage (cfg0.slots t 3)
abbrev ms0_4 (t : Fin cfg0.N) : Memref sig .tc .vmem S1x8192x128 .fp8e4m3 := win0_4.stage (cfg0.slots t 4)
abbrev ms0_5 (t : Fin cfg0.N) : Memref sig .tc .vmem S1x128x8192 .fp8e4m3 := win0_5.stage (cfg0.slots t 5)
abbrev ms0_6 (t : Fin cfg0.N) : Memref sig .tc .vmem S1x8192x512 .bf16 := win0_6.stage (cfg0.slots t 6)
abbrev scM0_0 : Memref sig .tc .vmem S8192x256 .f32 := Memref.whole cc0_scratch0
abbrev scM0_1 : Memref sig .tc .vmem S8x256 .f32 := Memref.whole cc0_scratch1

/-- The invariant between grid points: the scratch at anything, and the generator's register. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data: the arrays as the region finds them; each input's buffer keeps its block; the output's gets its own; the
invariant owns the scratch at anything; nothing owed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut (iblk m c 0 t) (iblk m c 1 t) (iblk m c 2 t) (iblk m c 3 t) (iblk m c 4 t) (iblk m c 5 t) (grid0.coords t 1)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = blockOut (iblk m c 0 t) (iblk m c 1 t) (iblk m c 2 t) (iblk m c 3 t) (iblk m c 4 t) (iblk m c 5 t) (grid0.coords t 1) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point, from its inputs' blocks. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ = Pipeline.ΦA spec0 c from rfl, show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%G8, %G9, %G10, H6⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns
  iexists _; isplitr; swap; · iexact H6
  ipureintro
  exact looped_reads c (grid0.coords t) _ _ _ _ _ _ _ _ _ _ _ _ _ _ _ _ _ _ _ _ _ _ _ _ G8 G9 G10

/-- The body table's row at point `t`'s slots. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Pipeline.ΦA spec0 c from rfl]

set_option backward.isDefEq.respectTransparency.types false in
/-- The run: every execution ends with the pipeline's arrays at what the blocks make them, every semaphore counter at zero. -/
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: every execution ends, the arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and
    (frame_of m ρ (dats m) (A_eq m) ((θ_run defs _ _).mono (fun _ h => h.1) (run_main m ρ)))
    ((θ_run defs _ _).mono (fun _ h => h.2) (run_main m ρ))

end Cert.KernelIdeal.Body

end
-- ==== Proof.KernelArray.lean ====
module

public import proofs.«01_k».proof.Proof.KernelIdealFrame
public import Idealize.ShloMosaic.Lib.Pipeline.ValueKit

/-! # The kernel's result, element by element -/

@[expose] public section

set_option maxRecDepth 16384

noncomputable section

namespace Cert.KernelIdeal.Body

open Cert.KernelIdeal Cert.KernelIdeal.Gen Cert.KernelIdeal.Trip Cert.Attention
open Idealize.ShloMosaic Idealize.ShloMosaic.TcCoe
open Idealize.ShloMosaic.Pipeline (Dat)

variable (m : (ℓ : Loc nD τ sig) → Buf (Elt Ideal) ℓ) (c : Dev nD)

/-- Column `d` of query head `g` of the group of key head `h`. -/
abbrev acol (h : Fin 16) (g : Fin 4) (d : Fin 128) : Fin 8192 := ⟨512 * h.val + 128 * g.val + d.val, by omega⟩
/-- Column `d` of key head `h`. -/
abbrev kcol (h : Fin 16) (d : Fin 128) : Fin 2048 := ⟨128 * h.val + d.val, by omega⟩

/-- One element of the result, from what the host hands the kernel: the scales `c0`, the words `sg` that say which scales
were negative, the output scales `osc`, the queries, the keys and the transposed values. -/
def elementAt (c0 : Vec Ideal S64 .f32) (sg : Vec Ideal S64 .i32) (osc : Vec Ideal S16 .f32) (q : Vec Ideal S2x8192x8192 .fp8e4m3)
    (k : Vec Ideal S2x8192x2048 .fp8e4m3) (vt : Vec Ideal S2x2048x8192 .fp8e4m3)
    (b : Fin 2) (r : Fin 8192) (h : Fin 16) (g : Fin 4) (d : Fin 128) : EReal :=
  kernelRow (fun j : Fin 8192 => ∑ e : Fin 128, k (ix3 b j (kcol h e))
      * (if sg (ix1 (qhead h g)) ≠ 0 then 0 - q (ix3 b r (acol h g e)) else q (ix3 b r (acol h g e))))
    (c0 (ix1 (qhead h g))) (osc (ix1 h)) fun j => vt (ix3 b (kcol h d) j)

/-- The whole result. -/
def resultOf (c0 : Vec Ideal S64 .f32) (sg : Vec Ideal S64 .i32) (osc : Vec Ideal S16 .f32) (q : Vec Ideal S2x8192x8192 .fp8e4m3)
    (k : Vec Ideal S2x8192x2048 .fp8e4m3) (vt : Vec Ideal S2x2048x8192 .fp8e4m3) : Vec Ideal S2x8192x8192 .bf16 := fun i =>
  elementAt c0 sg osc q k vt (i 0) (i 1) ⟨(i 2).val / 512, by have := (i 2).isLt; change _ < 8192 at this; omega⟩
    ⟨(i 2).val / 128 % 4, by omega⟩ ⟨(i 2).val % 128, by omega⟩

/-- Every window's block index: the scales whole, the other arrays by batch and key head. -/
theorem idx : ∀ t : Fin cfg0.N, win0_0.index t = ![0] ∧ win0_1.index t = ![0] ∧ win0_2.index t = ![0]
    ∧ win0_3.index t = ![t.val / 16 % 2, 0, t.val % 16] ∧ win0_4.index t = ![t.val / 16 % 2, 0, t.val % 16]
    ∧ win0_5.index t = ![t.val / 16 % 2, t.val % 16, 0] ∧ win0_6.index t = ![t.val / 16 % 2, 0, t.val % 16] :=
  (by decide +kernel : ∀ t : Fin grid0.N, _)

theorem coord_head (t : Fin cfg0.N) : (grid0.coords t 1).val = t.val % 16 := by
  have := Pipeline.Grid.coords_val (G := grid0) t 1 (S := 1) (by decide) rfl
  simpa using this

theorem blk0 (t : Fin cfg0.N) : iblk m c 0 t = V m c main_v7 := by blk_ext! [iblk, idx t]
theorem blk1 (t : Fin cfg0.N) : iblk m c 1 t = V m c main_v10 := by blk_ext! [iblk, idx t]
theorem blk2 (t : Fin cfg0.N) : iblk m c 2 t = V m c main_v12 := by blk_ext! [iblk, idx t]

/-- The batch of grid point `t`. -/
abbrev batch (t : Fin cfg0.N) : Fin 2 := ⟨t.val / 16 % 2, by omega⟩
/-- The key head of grid point `t`. -/
abbrev head (t : Fin cfg0.N) : Fin 16 := ⟨t.val % 16, by omega⟩

theorem blk3 (t : Fin cfg0.N) (r : Fin 8192) (g : Fin 4) (d : Fin 128) :
    (iblk m c 3 t : Vec Ideal S1x8192x512 .fp8e4m3) (ix3 0 r (qcol g d)) = (V m c main_arg0 : Vec Ideal S2x8192x8192 .fp8e4m3) (ix3 (batch t) r (acol (head t) g d)) := by
  blk_simp [iblk, idx t]
  refine congrArg (V m c main_arg0) ?_
  ext a
  fin_cases a <;> blk_simp [idx t] <;> simp <;> omega

theorem blk4 (t : Fin cfg0.N) (j : Fin 8192) (d : Fin 128) :
    (iblk m c 4 t : Vec Ideal S1x8192x128 .fp8e4m3) (ix3 0 j d) = (V m c main_arg2 : Vec Ideal S2x8192x2048 .fp8e4m3) (ix3 (batch t) j (kcol (head t) d)) := by
  blk_simp [iblk, idx t]
  refine congrArg (V m c main_arg2) ?_
  ext a
  fin_cases a <;> blk_simp [idx t] <;> simp <;> omega

theorem blk5 (t : Fin cfg0.N) (j : Fin 8192) (d : Fin 128) :
    (iblk m c 5 t : Vec Ideal S1x128x8192 .fp8e4m3) (ix3 0 d j) = (V m c main_v13 : Vec Ideal S2x2048x8192 .fp8e4m3) (ix3 (batch t) (kcol (head t) d) j) := by
  blk_simp [iblk, idx t]
  refine congrArg (V m c main_v13) ?_
  ext a
  fin_cases a <;> blk_simp [idx t] <;> simp <;> omega

theorem resultOf_apply (c0 : Vec Ideal S64 .f32) (sg : Vec Ideal S64 .i32) (osc : Vec Ideal S16 .f32) (q : Vec Ideal S2x8192x8192 .fp8e4m3)
    (k : Vec Ideal S2x8192x2048 .fp8e4m3) (vt : Vec Ideal S2x2048x8192 .fp8e4m3)
    (b : Fin 2) (r : Fin 8192) (h : Fin 16) (g : Fin 4) (d : Fin 128) :
    resultOf c0 sg osc q k vt (ix3 b r (acol h g d)) = elementAt c0 sg osc q k vt b r h g d := by
  refine congr (congr (congrArg (elementAt c0 sg osc q k vt b r) (Fin.ext ?_)) (Fin.ext ?_)) (Fin.ext ?_)
  · show (512 * h.val + 128 * g.val + d.val) / 512 = h.val
    omega
  · show (512 * h.val + 128 * g.val + d.val) / 128 % 4 = g.val
    omega
  · show (512 * h.val + 128 * g.val + d.val) % 128 = d.val
    omega

/-- One element of the block a grid point computes is the element of the whole result. -/
theorem blockAt_eq (t : Fin cfg0.N) (r : Fin 8192) (g : Fin 4) (d : Fin 128) :
    blockAt (iblk m c 0 t) (iblk m c 1 t) (iblk m c 2 t) (iblk m c 3 t) (iblk m c 4 t) (iblk m c 5 t) (head t) g r d
      = elementAt (V m c main_v7) (V m c main_v10) (V m c main_v12) (V m c main_arg0) (V m c main_arg2) (V m c main_v13) (batch t) r (head t) g d := by
  unfold blockAt elementAt rowScores queryAt
  rw [blk0, blk1, blk2]
  simp only [blk3, blk4, blk5]

/-- THE OUTPUT ARRAY after the run. -/
theorem final : (dats m 0 c).arrAt 6 cfg0.N
    = resultOf (V m c main_v7) (V m c main_v10) (V m c main_v12) (V m c main_arg0) (V m c main_arg2) (V m c main_v13) := by
  refine (dats m 0 c).arrAt_eq_of_covers 6 _ (by decide +kernel) fun t hf y => ?_
  blk_simp
  rw [after_6]
  obtain ⟨g, d, hgd⟩ : ∃ (g : Fin 4) (d : Fin 128), (y 2).val = 128 * g.val + d.val :=
    ⟨⟨(y 2).val / 128, by have := (y 2).isLt; change _ < 512 at this; omega⟩, ⟨(y 2).val % 128, by omega⟩, by simp only; omega⟩
  have e : (win0_6.blk t).view.emb y = ix3 (batch t) (y 1) (acol (head t) g d) := by
    ext a
    fin_cases a <;> blk_simp [idx t] <;> simp [hgd] <;> omega
  rw [e]
  refine Eq.trans ?_ ((blockAt_eq m c t (y 1) g d).trans (resultOf_apply _ _ _ _ _ _ (batch t) (y 1) (head t) g d).symm)
  refine congr (congrFun (congr (congrArg (blockAt (iblk m c 0 t) (iblk m c 1 t) (iblk m c 2 t) (iblk m c 3 t) (iblk m c 4 t) (iblk m c 5 t))
    (Fin.ext (coord_head t))) (Fin.ext ?_)) (y 1)) (Fin.ext ?_)
  · show (y 2).val / 128 = g.val
    omega
  · show (y 2).val % 128 = d.val
    omega

end Cert.KernelIdeal.Body

end
-- ==== Proof.KernelElement.lean ====
module

public import proofs.«01_k».proof.Proof.KernelArray
public import Idealize.ShloMosaic.Lib.Claim
public import Idealize.ShloMosaic.Lib.Pointwise

/-! # The kernel's result, from its arguments

What the host computes of the arguments before the kernel runs, and with it one element of the result. -/

@[expose] public section

set_option maxRecDepth 16384

noncomputable section

namespace Cert.KernelIdeal.Body

open Cert.KernelIdeal Cert.KernelIdeal.Gen Cert.KernelIdeal.Trip Cert.Attention
open Idealize.ShloMosaic Idealize.ShloMosaic.TcCoe

variable (m : (ℓ : Loc nD τ sig) → Buf (Elt Ideal) ℓ) (c : Dev nD)

/-- The query scales. -/
abbrev qScale : Vec Ideal S64 .f32 := m ((c : Thread nD τ).loc main_arg1)
/-- The key scales. -/
abbrev kScale : Vec Ideal S16 .f32 := m ((c : Thread nD τ).loc main_arg3)
/-- The queries. -/
abbrev queries : Vec Ideal S2x8192x8192 .fp8e4m3 := m ((c : Thread nD τ).loc main_arg0)
/-- The keys. -/
abbrev keys : Vec Ideal S2x8192x2048 .fp8e4m3 := m ((c : Thread nD τ).loc main_arg2)
/-- The values. -/
abbrev values : Vec Ideal S2x8192x2048 .fp8e4m3 := m ((c : Thread nD τ).loc main_arg4)
/-- The value scales. -/
abbrev vScale : Vec Ideal S16 .f32 := m ((c : Thread nD τ).loc main_arg5)

/-- The scale of query head `g` of key head `h`. -/
abbrev scale (h : Fin 16) (g : Fin 4) : EReal := qScale m c (ix1 (qhead h g)) * kScale m c (ix1 h) * Ideal.ofBits .f32 0x3DB504F3#32

/-- The kernel is handed the scales' absolute values, -/
theorem scale_apply (h : Fin 16) (g : Fin 4) :
    @Eq EReal (V m c main_v7 (ix1 (qhead h g))) (max (scale m c h g) (-(scale m c h g))) := by
  entry_read
  simp only [hostOps0, hostOps0_1, hostOps0_2, List.flatten_cons, List.flatten_nil, List.append_nil, List.cons_append, List.nil_append]
  entry_read
  pointwise
  have e1 : ∀ p, (⟨(4 * h.val + g.val) / 4, p⟩ : Fin 16) = h := fun p => Fin.ext (by simp only; omega)
  have e2 : ∀ p, (⟨(4 * h.val + g.val) / 4 * 4 + (4 * h.val + g.val) % 4, p⟩ : Fin 64) = qhead h g := fun p => Fin.ext (by simp only; omega)
  simp only [e1, e2]
  rfl

/-- a word that is zero where the scale is not negative, -/
theorem sign_apply (h : Fin 16) (g : Fin 4) (hs : 0 ≤ scale m c h g) :
    @Eq (BitVec 32) (V m c main_v10 (ix1 (qhead h g))) 0#32 := by
  entry_read
  simp only [hostOps0, hostOps0_1, hostOps0_2, List.flatten_cons, List.flatten_nil, List.append_nil, List.cons_append, List.nil_append]
  entry_read
  simp -implicitDefEqProofs only [StableHlo.TRef.toBuf, StableHlo.TRef.ofBuf, cast_eq]
  pointwise
  have e1 : ∀ p, (⟨(4 * h.val + g.val) / 4, p⟩ : Fin 16) = h := fun p => Fin.ext (by simp only; omega)
  have e2 : ∀ p, (⟨(4 * h.val + g.val) / 4 * 4 + (4 * h.val + g.val) % 4, p⟩ : Fin 64) = qhead h g := fun p => Fin.ext (by simp only; omega)
  simp only [e1, e2]
  exact if_neg (not_lt.mpr hs)

/-- the value scales divided by the scale of the weights, -/
theorem oscale_apply (h : Fin 16) :
    @Eq EReal (V m c main_v12 (ix1 h)) (Ideal.ofBits .f32 0x3B800000#32 * vScale m c (ix1 h)) := by
  entry_read
  simp only [hostOps0, hostOps0_1, hostOps0_2, List.flatten_cons, List.flatten_nil, List.append_nil, List.cons_append, List.nil_append]
  entry_read
  pointwise

/-- and the values transposed. -/
theorem values_apply (b : Fin 2) (r : Fin 2048) (j : Fin 8192) :
    @Eq EReal (V m c main_v13 (ix3 b r j)) (values m c (ix3 b j r)) := by
  entry_read
  simp only [hostOps0, hostOps0_1, hostOps0_2, List.flatten_cons, List.flatten_nil, List.append_nil, List.cons_append, List.nil_append]
  entry_read
  pointwise

/-- THE KERNEL at one element of a head whose scale is not negative. -/
theorem element (b : Fin 2) (r : Fin 8192) (h : Fin 16) (g : Fin 4) (d : Fin 128) (hs : 0 ≤ scale m c h g) :
    @Eq EReal ((dats m 0 c).arrAt 6 cfg0.N (ix3 b r (acol h g d)))
      (referenceRow (fun j : Fin 8192 => ∑ e : Fin 128, keys m c (ix3 b j (kcol h e)) * queries m c (ix3 b r (acol h g e))) (scale m c h g)
        (Ideal.ofBits .f32 0x3B800000#32 * vScale m c (ix1 h)) fun j => values m c (ix3 b j (kcol h d))) := by
  rw [← kernelRow_eq_referenceRow (by decide) _ hs, final]
  refine (resultOf_apply _ _ _ _ _ _ b r h g d).trans ?_
  have habs : max (scale m c h g) (-(scale m c h g)) = scale m c h g :=
    max_eq_left ((EReal.neg_le_neg_iff.mpr hs).trans (by simpa using hs))
  unfold elementAt
  rw [V_main_arg0, V_main_arg2]
  rw [scale_apply, oscale_apply, sign_apply m c h g hs, habs]
  refine (congrArg (kernelRow _ _ _) (funext fun j => values_apply m c b (kcol h d) j)).trans ?_
  rfl

end Cert.KernelIdeal.Body

end
-- ==== Proof.Reference.lean ====
module

public import proofs.«01_k».proof.Proof.Gen.ReferenceIdeal.Value
public import proofs.«01_k».proof.Proof.Row
public import Idealize.ShloMosaic.Lib.Pipeline.ValueKit
public import Idealize.ShloMosaic.Lib.Pointwise

/-! # What the reference computes

One element of the reference's result, as a row of the attention. -/

@[expose] public section

set_option maxRecDepth 16384

noncomputable section

namespace Cert.ReferenceIdeal.Whole

open Cert.ReferenceIdeal Cert.ReferenceIdeal.Gen Cert.Attention
open Idealize.ShloMosaic Idealize.ShloMosaic.TcCoe

/-- Column `d` of query head `g` of the group of key head `h`. -/
abbrev qcol (h : Fin 16) (g : Fin 4) (d : Fin 128) : Fin 8192 := ⟨512 * h.val + 128 * g.val + d.val, by omega⟩
/-- Column `d` of key head `h`. -/
abbrev kcol (h : Fin 16) (d : Fin 128) : Fin 2048 := ⟨128 * h.val + d.val, by omega⟩

/-- THE REFERENCE at one element. -/
theorem pay_apply (x : Vec Ideal S2x8192x8192 .fp8e4m3) (k v : Vec Ideal S2x8192x2048 .fp8e4m3) (s : Vec Ideal S16x4 .f32) (w : Vec Ideal S16 .f32)
    (b : Fin 2) (r : Fin 8192) (h : Fin 16) (g : Fin 4) (d : Fin 128) :
    k0_pay1 x k v s w (ix3 b r (qcol h g d))
      = referenceRow (fun j => ∑ e : Fin 128, k (ix3 b j (kcol h e)) * x (ix3 b r (qcol h g e))) (s (ix2 h g))
          (Ideal.ofBits .f32 0x3B800000#32 * w (ix1 h)) fun j => v (ix3 b j (kcol h d)) := by
  pointwise [k0_pay1]
  have e1 : ∀ p, (⟨(512 * h.val + 128 * g.val + d.val) / 512, p⟩ : Fin 16) = h := fun p => by ext; simp only; omega
  have e2 : ∀ p, (⟨(512 * h.val + 128 * g.val + d.val) / 128 % 4, p⟩ : Fin 4) = g := fun p => by ext; simp only; omega
  have e3 : ∀ p, (⟨(512 * h.val + 128 * g.val + d.val) / 512 * 128 + (512 * h.val + 128 * g.val + d.val) % 128, p⟩ : Fin 2048) = kcol h d :=
    fun p => by ext; simp only; omega
  have e4 : ∀ (e : Fin 128) p, (⟨(512 * h.val + 128 * g.val + d.val) / 512 * 128 + e.val, p⟩ : Fin 2048) = kcol h e :=
    fun e p => by ext; simp only; omega
  have e5 : ∀ (e : Fin 128) p, (⟨(512 * h.val + 128 * g.val + d.val) / 512 * 512 + (512 * h.val + 128 * g.val + d.val) / 128 % 4 * 128 + e.val, p⟩ : Fin 8192) = qcol h g e :=
    fun e p => by ext; simp only; omega
  simp only [e1, e2, e3, e4, e5, ofBits_negInf]
  rfl

end Cert.ReferenceIdeal.Whole

end
-- ==== Proof.ReferenceArray.lean ====
module

public import proofs.«01_k».proof.Proof.Reference

/-! # The reference's result, element by element -/

@[expose] public section

set_option maxRecDepth 16384

noncomputable section

namespace Cert.ReferenceIdeal.Whole

open Cert.ReferenceIdeal Cert.ReferenceIdeal.Gen Cert.Attention
open Idealize.ShloMosaic Idealize.ShloMosaic.TcCoe
open Idealize.ShloMosaic.Pipeline (Dat)

variable (m : (ℓ : Loc nD τ sig) → Buf (Elt Ideal) ℓ) (c : Dev nD)

/-- Every window's block index at the one grid point. -/
theorem idx : ∀ t : Fin cfg0.N, win0_0.index t = ![0, 0, 0] ∧ win0_1.index t = ![0, 0] ∧ win0_2.index t = ![0, 0, 0]
    ∧ win0_3.index t = ![0, 0, 0] ∧ win0_4.index t = ![0] :=
  (by decide +kernel : ∀ t : Fin grid0.N, _)

/-- Every window's block at the one grid point is its whole array. -/
theorem blocks : iblk m c 0 t0_0 = V m c main_arg0 ∧ iblk m c 1 t0_0 = V m c main_v5 ∧ iblk m c 2 t0_0 = V m c main_arg2
    ∧ iblk m c 3 t0_0 = V m c main_arg4 ∧ iblk m c 4 t0_0 = V m c main_arg5 := by
  refine ⟨?_, ?_, ?_, ?_, ?_⟩
  all_goals
    funext y
    blk_simp [iblk]
    refine congrArg (V m c _) ?_
    ext a
    fin_cases a <;> blk_simp [idx t0_0] <;> simp

/-- The run's output array is the payload of the arguments. -/
theorem arr_eq :
    (dats m 0 c).arrAt 5 cfg0.N
      = (k0_pay1 (F := Ideal) (V m c main_arg0) (V m c main_arg2) (V m c main_arg4) (V m c main_v5) (V m c main_arg5) : Vec Ideal S2x8192x8192 .bf16) := by
  refine (dats m 0 c).arrAt_eq_of_after_last 5 t0_0 (by decide +kernel) _ fun j => ?_
  blk_simp
  rw [after0_5]
  frame_out
  obtain ⟨h0, h1, h2, h3, h4⟩ := blocks m c
  rw [h0, h1, h2, h3, h4]

/-- The queries. -/
abbrev queries : Vec Ideal S2x8192x8192 .fp8e4m3 := m ((c : Thread nD τ).loc main_arg0)
/-- The keys. -/
abbrev keys : Vec Ideal S2x8192x2048 .fp8e4m3 := m ((c : Thread nD τ).loc main_arg2)
/-- The values. -/
abbrev values : Vec Ideal S2x8192x2048 .fp8e4m3 := m ((c : Thread nD τ).loc main_arg4)
/-- The value scales. -/
abbrev vScale : Vec Ideal S16 .f32 := m ((c : Thread nD τ).loc main_arg5)
/-- The query scales. -/
abbrev qScale : Vec Ideal S64 .f32 := m ((c : Thread nD τ).loc main_arg1)
/-- The key scales. -/
abbrev kScale : Vec Ideal S16 .f32 := m ((c : Thread nD τ).loc main_arg3)

/-- The scale of query head `g` of key head `h`. -/
theorem scale_apply (h : Fin 16) (g : Fin 4) :
    @Eq EReal (V m c main_v5 (ix2 h g))
      (qScale m c (ix1 ⟨4 * h.val + g.val, by omega⟩) * kScale m c (ix1 h) * Ideal.ofBits .f32 0x3DB504F3#32) := by
  entry_read
  pointwise
  simp only [Nat.mul_comm h.val 4]

/-- THE REFERENCE at one element. -/
theorem element (b : Fin 2) (r : Fin 8192) (h : Fin 16) (g : Fin 4) (d : Fin 128) :
    @Eq EReal ((dats m 0 c).arrAt 5 cfg0.N (ix3 b r (qcol h g d)))
      (referenceRow (fun j : Fin 8192 => ∑ e : Fin 128, keys m c (ix3 b j (kcol h e)) * queries m c (ix3 b r (qcol h g e)))
        (qScale m c (ix1 ⟨4 * h.val + g.val, by omega⟩) * kScale m c (ix1 h) * Ideal.ofBits .f32 0x3DB504F3#32)
        (Ideal.ofBits .f32 0x3B800000#32 * vScale m c (ix1 h)) fun j => values m c (ix3 b j (kcol h d))) := by
  rw [arr_eq]
  refine (pay_apply _ _ _ _ _ b r h g d).trans ?_
  rw [V_main_arg0, V_main_arg2, V_main_arg4, V_main_arg5]
  rw [scale_apply]

end Cert.ReferenceIdeal.Whole

end
-- ==== Proof.Mask.lean ====
module

public import proofs.«01_k».proof.Defs
public import proofs.«01_k».proof.Proof.Gen.On_head_scale_nonnegative
public import proofs.«01_k».proof.Proof.Row
public import Idealize.ShloMosaic.Lib.Pointwise

/-! # The mask: where a head's combined scale is not negative -/

@[expose] public section

set_option maxRecDepth 16384

noncomputable section

namespace Cert.On_head_scale_nonnegative

open Cert.Attention
open Idealize.ShloMosaic

/-- The mask at an element of query head `g` of key head `h`. -/
theorem mask_apply [Facts] (x : Vec Ideal S2x8192x8192 .fp8e4m3) (s : Vec Ideal S64 .f32) (k : Vec Ideal S2x8192x2048 .fp8e4m3) (w : Vec Ideal S16 .f32)
    (v : Vec Ideal S2x8192x2048 .fp8e4m3) (u : Vec Ideal S16 .f32)
    (b : Fin 2) (r : Fin 8192) (h : Fin 16) (g : Fin 4) (d : Fin 128)
    (hm : fn (F := Ideal) x s k w v u (ix3 b r ⟨512 * h.val + 128 * g.val + d.val, by omega⟩) = 1#1) :
    (0 : EReal) ≤ s (ix1 ⟨4 * h.val + g.val, by omega⟩) * w (ix1 h) * Ideal.ofBits .f32 0x3DB504F3#32 := by
  revert hm
  pointwise [fn]
  simp only [Nat.mul_comm h.val 4]
  intro hm
  by_contra hn
  rw [decide_eq_false hn] at hm
  exact absurd hm (by decide)

end Cert.On_head_scale_nonnegative

end
-- ==== Proof.Claims.lean ====
module

public import proofs.«01_k».proof.Defs
public import proofs.«01_k».proof.Proof.KernelFrame
public import proofs.«01_k».proof.Proof.KernelElement
public import proofs.«01_k».proof.Proof.ReferenceArray
public import proofs.«01_k».proof.Proof.Mask
public import Idealize.ShloMosaic.Lib.Claim

/-! # The claims, one theorem each -/

@[expose] public section

set_option maxRecDepth 16384

noncomputable section

namespace Cert.Proof.Claims

open Idealize.ShloMosaic Idealize.SL.Sem

theorem frame_kernel : Cert.quiescent_Kernel := fun m ρ _ => Cert.Kernel.Body.frame m ρ

theorem frame_kernelIdeal : Cert.quiescent_KernelIdeal := fun m ρ _ => Cert.KernelIdeal.Body.frame m ρ

theorem frame_referenceIdeal : Cert.quiescent_ReferenceIdeal := fun m ρ _ => Cert.ReferenceIdeal.Gen.frame m ρ

/-- The one constant that is named: the logarithm to base two of `e`. -/
theorem preserves : Cert.preserves_Kernel_KernelIdeal :=
  IdealRules.named_const.statement Cert.KernelIdeal.κ "log2e" .f32 0x3FB8AA3B#32 (((Real.log 2)⁻¹ : ℝ) : EReal) rfl

/-- Element by element, the two result arrays agree where the mask is set. -/
theorem arrays_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Whole.queries m' c = Cert.KernelIdeal.Body.queries m c)
    (h1 : Cert.ReferenceIdeal.Whole.qScale m' c = Cert.KernelIdeal.Body.qScale m c)
    (h2 : Cert.ReferenceIdeal.Whole.keys m' c = Cert.KernelIdeal.Body.keys m c)
    (h3 : Cert.ReferenceIdeal.Whole.kScale m' c = Cert.KernelIdeal.Body.kScale m c)
    (h4 : Cert.ReferenceIdeal.Whole.values m' c = Cert.KernelIdeal.Body.values m c)
    (h5 : Cert.ReferenceIdeal.Whole.vScale m' c = Cert.KernelIdeal.Body.vScale m c)
    (i : (⟨3, ![2, 8192, 8192]⟩ : Shape).Idx)
    (hm : Cert.On_head_scale_nonnegative.fn (F := Ideal) (Cert.KernelIdeal.Body.queries m c) (Cert.KernelIdeal.Body.qScale m c)
      (Cert.KernelIdeal.Body.keys m c) (Cert.KernelIdeal.Body.kScale m c) (Cert.KernelIdeal.Body.values m c) (Cert.KernelIdeal.Body.vScale m c) i = 1#1) :
    @Eq EReal ((Cert.ReferenceIdeal.Gen.dats m' 0 c).arrAt 5 Cert.ReferenceIdeal.cfg0.N i)
      ((Cert.KernelIdeal.Body.dats m 0 c).arrAt 6 Cert.KernelIdeal.cfg0.N i) := by
  obtain ⟨b, r, h, g, d, rfl⟩ : ∃ (b : Fin 2) (r : Fin 8192) (h : Fin 16) (g : Fin 4) (d : Fin 128),
      i = ix3 b r ⟨512 * h.val + 128 * g.val + d.val, by omega⟩ := by
    have h2 := (i 2).isLt
    change (i 2).val < 8192 at h2
    refine ⟨i 0, i 1, ⟨(i 2).val / 512, by omega⟩, ⟨(i 2).val / 128 % 4, by omega⟩, ⟨(i 2).val % 128, by omega⟩, ?_⟩
    ext a
    fin_cases a <;> simp <;> omega
  have hs := Cert.On_head_scale_nonnegative.mask_apply _ _ _ _ _ _ b r h g d hm
  refine (Cert.ReferenceIdeal.Whole.element m' c b r h g d).trans ?_
  rw [h0, h1, h2, h3, h4, h5]
  exact (Cert.KernelIdeal.Body.element m c b r h g d hs).symm

/-- The kernel's result and the reference's are equal at every element the mask selects. -/
theorem algebraic : Cert.algebraic_KernelIdeal_ReferenceIdeal_on_head_scale_nonnegative := by
  intro m g m' g' _ hagree
  refine ⟨fun c => (Cert.KernelIdeal.Body.dats m 0 c).arrAt 6 Cert.KernelIdeal.cfg0.N, ?_, ?_⟩
  · exact (θ_run _ _ _).mono (fun r h c => ⟨fun i _ => congrFun ((h.1.1 c).1 6) i, h.2.1 c⟩)
      (θ_run_and (Cert.KernelIdeal.Body.run_main m g) (Cert.KernelIdeal.Body.frame m g))
  · refine (θ_run _ _ _).mono (fun r h c => ⟨fun i hm => (congrFun (h c).1 i).trans ?_, (h c).2⟩) (Cert.ReferenceIdeal.Value.run_blocks m' g')
    obtain ⟨h0, h1, h2, h3, h4, h5⟩ := hagree c
    exact arrays_agree m m' c h0 h1 h2 h3 h4 h5 i hm

end Cert.Proof.Claims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.On_head_scale_nonnegative
public import proofs.«01_k».proof.Proof.Claims

/-! # The certificate

The claims, each proved in `Claims`, behind the witnesses of the facts the programs state. -/

@[expose] public section

noncomputable section

namespace Cert.Proof

theorem claim : Cert.Claim :=
  ⟨Cert.Kernel.Gen.facts, Cert.KernelIdeal.Gen.facts, Cert.ReferenceIdeal.Gen.facts, Cert.On_head_scale_nonnegative.Gen.facts,
    Claims.frame_kernel, Claims.frame_kernelIdeal, Claims.frame_referenceIdeal, Claims.preserves, Claims.algebraic⟩

end Cert.Proof

end
